-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  IdealRules.named_const.Statement Cert.KernelIdeal.κ "scale" .f32 0x3E0293EE#32 ((((Real.log 2) * (Real.sqrt 128))⁻¹ : ℝ) : EReal)
  ∧ IdealRules.named_const.Statement Cert.KernelIdeal.κ "mask" .f32 0xF149F2CA#32 ⊥

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
-- ==== Pre_finite.lean ====
abbrev S1x16x2048x128 : Shape := ⟨4, ![1, 16, 2048, 128]⟩
abbrev S_ : Shape := ⟨0, ![]⟩

class Facts : Prop where
  bcast_S_S1x16x2048x128 : S_.BroadcastsInDim S1x16x2048x128 (![] : Fin 0 → Fin S1x16x2048x128.rank)
  reducesTo_S1x16x2048x128_S_d0_1_2_3 : S1x16x2048x128.ReducesTo [0, 1, 2, 3] S_
  h_S_ : 0 < S_.numel

variable [Facts]

def fn {F : FTy → Type} [FloatOps F] (main_arg0 : FVec F S1x16x2048x128 .f32) (main_arg1 : FVec F S1x16x2048x128 .f32) (main_arg2 : FVec F S1x16x2048x128 .f32) : IVec S_ 1 :=
  let main_v0 : FVec F S1x16x2048x128 .f32 := Host.absf main_arg0
  let main_cst : FVec F S_ .f32 := constant S_ .f32 0x7F800000#32
  let main_v1 : FVec F S1x16x2048x128 .f32 := broadcastInDim S1x16x2048x128 ![] bcast_S_S1x16x2048x128 main_cst
  let main_v2 : IVec S1x16x2048x128 1 := cmpf .olt main_v0 main_v1
  let main_c : IVec S_ 1 := constantI S_ 1 1#1
  let main_v3 : IVec S_ 1 := (fun x v => Host.reduce IntOp.andi x v reducesTo_S1x16x2048x128_S_d0_1_2_3 h_S_) main_v2 main_c
  let main_v4 : FVec F S1x16x2048x128 .f32 := Host.absf main_arg1
  let main_cst_0 : FVec F S_ .f32 := constant S_ .f32 0x7F800000#32
  let main_v5 : FVec F S1x16x2048x128 .f32 := broadcastInDim S1x16x2048x128 ![] bcast_S_S1x16x2048x128 main_cst_0
  let main_v6 : IVec S1x16x2048x128 1 := cmpf .olt main_v4 main_v5
  let main_c_1 : IVec S_ 1 := constantI S_ 1 1#1
  let main_v7 : IVec S_ 1 := (fun x v => Host.reduce IntOp.andi x v reducesTo_S1x16x2048x128_S_d0_1_2_3 h_S_) main_v6 main_c_1
  let main_v8 : IVec S_ 1 := andi main_v3 main_v7
  main_v8
-- ==== Kernel.lean ====
abbrev S1x16x2048x128 : Shape := ⟨4, ![1, 16, 2048, 128]⟩
abbrev S1x8x512x128 : Shape := ⟨4, ![1, 8, 512, 128]⟩
abbrev S2x8x512x128 : Shape := ⟨4, ![2, 8, 512, 128]⟩
abbrev S_ : Shape := ⟨0, ![]⟩
abbrev S8x512x128 : Shape := ⟨3, ![8, 512, 128]⟩
abbrev S8x256x128 : Shape := ⟨3, ![8, 256, 128]⟩
abbrev S1x8x256x128 : Shape := ⟨4, ![1, 8, 256, 128]⟩
abbrev S8x256x256 : Shape := ⟨3, ![8, 256, 256]⟩
abbrev S8x256 : Shape := ⟨2, ![8, 256]⟩
abbrev S8x256x1 : Shape := ⟨3, ![8, 256, 1]⟩

abbrev nBuf : Space → Nat
  | .hbm => 4
  | .vmem => 10
  | .smem => 0
  | _ => 0

abbrev bufTy : (tb : Table) → Fin (tcTables nBuf tb) → BufTy
  | .hbm, ⟨0, _⟩ => ⟨S1x16x2048x128, .f32⟩
  | .hbm, ⟨1, _⟩ => ⟨S1x16x2048x128, .f32⟩
  | .hbm, ⟨2, _⟩ => ⟨S1x16x2048x128, .f32⟩
  | .hbm, ⟨3, _⟩ => ⟨S1x16x2048x128, .f32⟩
  | .local _ .vmem, ⟨0, _⟩ => ⟨S1x8x512x128, .f32⟩
  | .local _ .vmem, ⟨1, _⟩ => ⟨S1x8x512x128, .f32⟩
  | .local _ .vmem, ⟨2, _⟩ => ⟨S1x8x512x128, .f32⟩
  | .local _ .vmem, ⟨3, _⟩ => ⟨S1x8x512x128, .f32⟩
  | .local _ .vmem, ⟨4, _⟩ => ⟨S1x8x512x128, .f32⟩
  | .local _ .vmem, ⟨5, _⟩ => ⟨S1x8x512x128, .f32⟩
  | .local _ .vmem, ⟨6, _⟩ => ⟨S1x8x512x128, .f32⟩
  | .local _ .vmem, ⟨7, _⟩ => ⟨S1x8x512x128, .f32⟩
  | .local _ .vmem, ⟨8, _⟩ => ⟨S2x8x512x128, .f32⟩
  | .local _ .vmem, ⟨9, _⟩ => ⟨S2x8x512x128, .f32⟩
  | _, _ => ⟨S1x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_off1 (i : grid0.Coords) : Fin 4 → Nat :=
  let arg1 : BitVec 32 := BitVec.ofNat 32 (i 1).val
  let c2_i32 : BitVec 32 := 2#32
  let v0 : BitVec 32 := Scalar.remsi arg1 c2_i32
  let c0_i32_0 : BitVec 32 := 0#32
  let c0_i32_1 : BitVec 32 := 0#32
  let c0_i32_2 : BitVec 32 := 0#32
  ![v0.toNat, 0, 0, 0]
def k0_cond1 (i : grid0.Coords) : BitVec 1 :=
  let arg1 : BitVec 32 := BitVec.ofNat 32 (i 1).val
  let c0_i32_13 : BitVec 32 := 0#32
  let v10 : BitVec 1 := Scalar.cmpi .eq arg1 c0_i32_13
  let v11 : BitVec 32 := Scalar.extui v10
  let c0_i32_14 : BitVec 32 := 0#32
  let v12 : BitVec 1 := Scalar.cmpi .ne v11 c0_i32_14
  v12

def k0_off2 (i : grid0.Coords) : Fin 4 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v115 : Index := Scalar.indexCast v1
  let c0_92 : Index := 0#32
  let c0_93 : Index := 0#32
  let c0_94 : Index := 0#32
  ![v115.toNat, 0, 0, 0]
def k0_off3 (i : grid0.Coords) : Fin 4 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v19 : Index := Scalar.indexCast v1
  let c0_18 : Index := 0#32
  let c0_19 : Index := 0#32
  let c0_20 : Index := 0#32
  ![v19.toNat, 0, 0, 0]
def k0_off4 (i : grid0.Coords) : Fin 4 → Nat :=
  let c1_i32 : BitVec 32 := 1#32
  let arg1 : BitVec 32 := BitVec.ofNat 32 (i 1).val
  let c2_i32 : BitVec 32 := 2#32
  let v0 : BitVec 32 := Scalar.remsi arg1 c2_i32
  let v1 : BitVec 32 := Scalar.subi c1_i32 v0
  let v22 : Index := Scalar.indexCast v1
  let c0_21 : Index := 0#32
  let c256 : Index := 256#32
  let c0_22 : Index := 0#32
  ![v22.toNat, 0, 256, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | "scale" => some ((((Real.log 2) * (Real.sqrt 128))⁻¹ : ℝ) : EReal)
  | _ => none
-- ==== Reference.lean ====
abbrev S1x16x2048x128 : Shape := ⟨4, ![1, 16, 2048, 128]⟩
abbrev S_ : Shape := ⟨0, ![]⟩
abbrev S1x16x2048x2048 : Shape := ⟨4, ![1, 16, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S1x16x2048x128, .f32⟩
  | .hbm, ⟨1, _⟩ => ⟨S1x16x2048x128, .f32⟩
  | .hbm, ⟨2, _⟩ => ⟨S1x16x2048x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x16x2048x2048, .f32⟩
  | .hbm, ⟨8, _⟩ => ⟨S1x16x2048x2048, .f32⟩
  | .hbm, ⟨9, _⟩ => ⟨S1x16x2048x2048, .f32⟩
  | .hbm, ⟨10, _⟩ => ⟨S2048, .i32⟩
  | .hbm, ⟨11, _⟩ => ⟨S2048x1, .i32⟩
  | .hbm, ⟨12, _⟩ => ⟨S2048, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S2048x2048, .i1⟩
  | .hbm, ⟨24, _⟩ => ⟨S1x1x2048x2048, .i1⟩
  | .hbm, ⟨25, _⟩ => ⟨S_, .f32⟩
  | .hbm, ⟨26, _⟩ => ⟨S_, .f32⟩
  | .hbm, ⟨27, _⟩ => ⟨S1x16x2048x2048, .i1⟩
  | .hbm, ⟨28, _⟩ => ⟨S1x16x2048x2048, .f32⟩
  | .hbm, ⟨29, _⟩ => ⟨S1x16x2048x2048, .f32⟩
  | .hbm, ⟨30, _⟩ => ⟨S_, .f32⟩
  | .hbm, ⟨31, _⟩ => ⟨S1x16x2048, .f32⟩
  | .hbm, ⟨32, _⟩ => ⟨S_, .f32⟩
  | .hbm, ⟨33, _⟩ => ⟨S1x16x2048, .f32⟩
  | .hbm, ⟨34, _⟩ => ⟨S1x16x2048, .f32⟩
  | .hbm, ⟨35, _⟩ => ⟨S1x16x2048x1, .f32⟩
  | .hbm, ⟨36, _⟩ => ⟨S1x16x2048x2048, .f32⟩
  | .hbm, ⟨37, _⟩ => ⟨S1x16x2048x2048, .f32⟩
  | .hbm, ⟨38, _⟩ => ⟨S1x16x2048x2048, .f32⟩
  | .hbm, ⟨39, _⟩ => ⟨S_, .f32⟩
  | .hbm, ⟨40, _⟩ => ⟨S1x16x2048, .f32⟩
  | .hbm, ⟨41, _⟩ => ⟨S1x16x2048x1, .f32⟩
  | .hbm, ⟨42, _⟩ => ⟨S1x16x2048x2048, .f32⟩
  | .hbm, ⟨43, _⟩ => ⟨S1x16x2048x2048, .f32⟩
  | .hbm, ⟨44, _⟩ => ⟨S1x16x2048x128, .f32⟩
  | _, _ => ⟨S1x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Carried.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Pointwise.Index
public import Idealize.ShloMosaic.Lib.ReshapeSlab
public import Idealize.ShloMosaic.Lib.Tactic

/-!
# The carried buffers, as plain functions of an index

The kernel keeps two buffers of two slots each. A grid point copies its key block (value block) into the slot of its
own parity and reads the other slot, which the point before it filled. The lemmas here say what each slot holds after
a copy and what a load of half a slot reads.
-/

@[expose] public section

noncomputable section

namespace Cert.KernelIdeal.Hand

open Cert.KernelIdeal Cert.KernelIdeal.Gen
open Idealize.ShloMosaic Idealize.ShloMosaic.TcCoe

variable {F : FTy → Type} [FloatOps F] [Named F]

/-- The two carried buffers: the keys' and the values'. -/
abbrev scK : Memref sig .tc .vmem S2x8x512x128 .f32 := Memref.whole cc0_scratch0
abbrev scV : Memref sig .tc .vmem S2x8x512x128 .f32 := Memref.whole cc0_scratch1

/-- One slot of a carried buffer, as a block. -/
def slot (n : Fin 2) (d : Vec F S2x8x512x128 .f32) : Vec F S1x8x512x128 .f32 := fun j => d (ix4 n (j 1) (j 2) (j 3))

/-- The first 256 rows of a block. -/
def lo (x : Vec F S1x8x512x128 .f32) : Vec F S1x8x256x128 .f32 :=
  fun j => x (ix4 (j 0) (j 1) ⟨(j 2).val, lt_trans (j 2).isLt (by decide)⟩ (j 3))

/-- The last 256 rows of a block. -/
def hi (x : Vec F S1x8x512x128 .f32) : Vec F S1x8x256x128 .f32 :=
  fun j => x (ix4 (j 0) (j 1) ⟨256 + (j 2).val, by have h : (j 2).val < 256 := (j 2).isLt; show _ < 512; omega⟩ (j 3))

/-- The slot a grid point fills, and the slot it reads. -/
def curSlot (i : grid0.Coords) : Fin 2 := ⟨(i 1).val % 2, Nat.mod_lt _ (by decide)⟩
def prvSlot (i : grid0.Coords) : Fin 2 := ⟨1 - (i 1).val % 2, by omega⟩

/-- The window of a carried buffer that a grid point's copy fills. -/
abbrev copyWin (M : Memref sig .tc .vmem S2x8x512x128 .f32) (i : grid0.Coords) : Memref sig .tc .vmem S8x512x128 .f32 :=
  (M.slice (Rect.unit (s := S2x8x512x128) (k0_off1 i) S1x8x512x128.size (k0_off1_inb i)) (fun _ => rfl)).squeeze S8x512x128
    squeezes_S1x8x512x128_S8x512x128

/-- What a copy of a whole block carries. -/
abbrev copied (arg : Memref sig .tc .vmem S1x8x512x128 .f32) (f : arg.view.ty.Contents (Elt F)) : Vec F S8x512x128 .f32 :=
  ((arg.slice (Rect.unit (s := S1x8x512x128) ![0, 0, 0, 0] S1x8x512x128.size inb_S1x8x512x128_S1x8x512x128_0_0_0_0) (fun _ => rfl)).squeeze
    S8x512x128 squeezes_S1x8x512x128_S8x512x128).view.read (Elt F) f

/-- A box of one slot of a carried buffer and the window a copy fills, at different slots, share no element. -/
theorem slot_disjoint (M : Memref sig .tc .vmem S2x8x512x128 .f32) {s' : Shape} (o o' sz sz' : Fin S2x8x512x128.rank → ℕ)
    (h : ∀ a, o a + sz a ≤ S2x8x512x128.size a) (h' : ∀ a, o' a + sz' a ≤ S2x8x512x128.size a)
    (hd : ∀ a, (Rect.unit o' sz' h').stride a = 1) (hq : (Rect.unit o' sz' h').shape.Squeezes s')
    (hsep : o 0 + sz 0 ≤ o' 0 ∨ o' 0 + sz' 0 ≤ o 0) :
    Disjoint (M.view.setOn (Rect.unit o sz h).set) ((M.slice (Rect.unit o' sz' h') hd).squeeze s' hq).view.set := by
  rw [Memref.set_view_squeeze]
  have : Disjoint (M.view.slice (Rect.unit o sz h)).set (M.view.slice (Rect.unit o' sz' h')).set :=
    View.disjoint_slice_of_sep M.view _ _ 0 rfl rfl hsep
  rw [View.set_slice] at this
  exact this

/-- The same, the box as a store spells it. -/
theorem slot_disjoint_store (M : Memref sig .tc .vmem S2x8x512x128 .f32) {s' : Shape} (o o' sz sz' : Fin S2x8x512x128.rank → ℕ)
    (h : ∀ a, o a + sz a ≤ S2x8x512x128.size a) (h' : ∀ a, o' a + sz' a ≤ S2x8x512x128.size a)
    (hd : ∀ a, (Rect.unit o' sz' h').stride a = 1) (hq : (Rect.unit o' sz' h').shape.Squeezes s')
    (hsep : o 0 + sz 0 ≤ o' 0 ∨ o' 0 + sz' 0 ≤ o 0) :
    Disjoint (M.access (Rect.unit o sz h)).set ((M.slice (Rect.unit o' sz' h') hd).squeeze s' hq).view.set := by
  rw [Memref.set_view_squeeze]
  exact View.disjoint_slice_of_sep M.view _ _ 0 rfl rfl hsep

/-- The slot filled and the slot read are not the same. -/
theorem sep2 (i : grid0.Coords) : k0_off2 i 0 + 1 ≤ k0_off1 i 0 ∨ k0_off1 i 0 + 1 ≤ k0_off2 i 0 := by
  rw [k0_off1_eq, k0_off2_eq]
  show 1 - (i 1).val % 2 + 1 ≤ (i 1).val % 2 ∨ (i 1).val % 2 + 1 ≤ 1 - (i 1).val % 2
  omega
theorem sep3 (i : grid0.Coords) : k0_off3 i 0 + 1 ≤ k0_off1 i 0 ∨ k0_off1 i 0 + 1 ≤ k0_off3 i 0 := by
  rw [k0_off3_eq, ← k0_off2_eq]; exact sep2 i
theorem sep4 (i : grid0.Coords) : k0_off4 i 0 + 1 ≤ k0_off1 i 0 ∨ k0_off1 i 0 + 1 ≤ k0_off4 i 0 := by
  rw [k0_off4_eq]; have := sep2 i; rw [k0_off2_eq] at this; exact this

/-- Two indices of a rank-four shape with equal coordinates are equal. -/
theorem idx4_ext {n0 n1 n2 n3 : ℕ} {x y : (⟨4, ![n0, n1, n2, n3]⟩ : Shape).Idx} (h0 : (x 0).val = (y 0).val) (h1 : (x 1).val = (y 1).val)
    (h2 : (x 2).val = (y 2).val) (h3 : (x 3).val = (y 3).val) : x = y :=
  funext fun a => match a with
    | ⟨0, _⟩ => Fin.ext h0
    | ⟨1, _⟩ => Fin.ext h1
    | ⟨2, _⟩ => Fin.ext h2
    | ⟨3, _⟩ => Fin.ext h3

/-- A load of a block's first 256 rows. -/
theorem readAt_lo (arg : Memref sig .tc .vmem S1x8x512x128 .f32) (f : arg.view.ty.Contents (Elt F)) {x : Vec F S1x8x512x128 .f32}
    (h : arg.view.read (Elt F) f = x) :
    arg.view.readAt (Elt F) (Rect.unit (s := S1x8x512x128) ![0, 0, 0, 0] S1x8x256x128.size inb_S1x8x512x128_S1x8x256x128_0_0_0_0).toLoadRect f
      = lo x := by
  subst h
  funext j
  refine congrArg (arg.view.read (Elt F) f) (idx4_ext ?_ ?_ ?_ ?_) <;>
    · show 0 + 1 * _ = _
      simp [ix4]

/-- A load of a block's last 256 rows. -/
theorem readAt_hi (arg : Memref sig .tc .vmem S1x8x512x128 .f32) (f : arg.view.ty.Contents (Elt F)) {x : Vec F S1x8x512x128 .f32}
    (h : arg.view.read (Elt F) f = x) :
    arg.view.readAt (Elt F) (Rect.unit (s := S1x8x512x128) ![0, 0, 256, 0] S1x8x256x128.size inb_S1x8x512x128_S1x8x256x128_0_0_256_0).toLoadRect f
      = hi x := by
  subst h
  funext j
  refine congrArg (arg.view.read (Elt F) f) (idx4_ext ?_ ?_ ?_ ?_)
  · show 0 + 1 * _ = _; simp [ix4]
  · show 0 + 1 * _ = _; simp [ix4]
  · show 256 + 1 * _ = _; simp [ix4]
  · show 0 + 1 * _ = _; simp [ix4]

/-- A load of the first 256 rows of the slot a point reads. -/
theorem readAt_slot_lo (M : Memref sig .tc .vmem S2x8x512x128 .f32) (i : grid0.Coords) (f : M.view.ty.Contents (Elt F))
    (hb : ∀ a, k0_off3 i a + S1x8x256x128.size a ≤ S2x8x512x128.size a) :
    M.view.readAt (Elt F) (Rect.unit (s := S2x8x512x128) (k0_off3 i) S1x8x256x128.size hb).toLoadRect f
      = lo (slot (prvSlot i) (M.view.read (Elt F) f)) := by
  rw [View.readAt_unit M.view f hb (k0_off3_eq i) (by rw [← k0_off3_eq]; exact hb)]
  funext j
  have h0 : (j 0).val < 1 := (j 0).isLt
  refine congrArg (M.view.read (Elt F) f) (idx4_ext ?_ ?_ ?_ ?_)
  · show 1 - (i 1).val % 2 + 1 * (j 0).val = 1 - (i 1).val % 2; omega
  · show 0 + 1 * (j 1).val = (j 1).val; omega
  · show 0 + 1 * (j 2).val = (j 2).val; omega
  · show 0 + 1 * (j 3).val = (j 3).val; omega

/-- A load of the last 256 rows of the slot a point reads. -/
theorem readAt_slot_hi (M : Memref sig .tc .vmem S2x8x512x128 .f32) (i : grid0.Coords) (f : M.view.ty.Contents (Elt F))
    (hb : ∀ a, k0_off4 i a + S1x8x256x128.size a ≤ S2x8x512x128.size a) :
    M.view.readAt (Elt F) (Rect.unit (s := S2x8x512x128) (k0_off4 i) S1x8x256x128.size hb).toLoadRect f
      = hi (slot (prvSlot i) (M.view.read (Elt F) f)) := by
  rw [View.readAt_unit M.view f hb (k0_off4_eq i) (by rw [← k0_off4_eq]; exact hb)]
  funext j
  have h0 : (j 0).val < 1 := (j 0).isLt
  refine congrArg (M.view.read (Elt F) f) (idx4_ext ?_ ?_ ?_ ?_)
  · show 1 - (i 1).val % 2 + 1 * (j 0).val = 1 - (i 1).val % 2; omega
  · show 0 + 1 * (j 1).val = (j 1).val; omega
  · show 256 + 1 * (j 2).val = 256 + (j 2).val; omega
  · show 0 + 1 * (j 3).val = (j 3).val; omega

/-- After a point's copy, the slot it fills holds the block copied. -/
theorem slot_cur_copy (M : Memref sig .tc .vmem S2x8x512x128 .f32) (i : grid0.Coords) (g : M.view.ty.Contents (Elt F))
    (arg : Memref sig .tc .vmem S1x8x512x128 .f32) (f : arg.view.ty.Contents (Elt F)) {x : Vec F S1x8x512x128 .f32}
    (h : arg.view.read (Elt F) f = x) :
    slot (curSlot i) (M.view.read (Elt F) ((copyWin M i).view.write (Elt F) g (copied arg f) Finset.univ)) = x := by
  subst h
  funext j
  have hw := View.read_write_univ (v := (copyWin M i).view) g (copied arg f)
  obtain ⟨y, hy⟩ := (Shape.reshapeEquiv (squeezes_S1x8x512x128_S8x512x128).numel_eq).surjective j
  have e := congrFun hw y
  refine Eq.trans ?_ (e.trans ?_)
  · refine congrArg (M.view.read (Elt F) _) ?_
    subst hy
    set z := Shape.reshapeEquiv (squeezes_S1x8x512x128_S8x512x128).numel_eq y with hz
    have h0 : (z 0).val < 1 := Fin.isLt _
    have k0 : k0_off1 i 0 = (i 1).val % 2 := by rw [k0_off1_eq]; rfl
    have k1 : k0_off1 i 1 = 0 := by rw [k0_off1_eq]; rfl
    have k2 : k0_off1 i 2 = 0 := by rw [k0_off1_eq]; rfl
    have k3 : k0_off1 i 3 = 0 := by rw [k0_off1_eq]; rfl
    refine idx4_ext ?_ ?_ ?_ ?_
    · show (i 1).val % 2 = k0_off1 i 0 + 1 * (z 0).val; omega
    · show (z 1).val = k0_off1 i 1 + 1 * (z 1).val; omega
    · show (z 2).val = k0_off1 i 2 + 1 * (z 2).val; omega
    · show (z 3).val = k0_off1 i 3 + 1 * (z 3).val; omega
  · subst hy
    exact congrFun (Memref.read_squeeze_full arg inb_S1x8x512x128_S1x8x512x128_0_0_0_0 squeezes_S1x8x512x128_S8x512x128 f) y

/-- A point's copy leaves the other slot as it was. -/
theorem slot_prv_copy (M : Memref sig .tc .vmem S2x8x512x128 .f32) (i : grid0.Coords) (g : M.view.ty.Contents (Elt F)) (p : Vec F S8x512x128 .f32) :
    slot (prvSlot i) (M.view.read (Elt F) ((copyWin M i).view.write (Elt F) g p Finset.univ)) = slot (prvSlot i) (M.view.read (Elt F) g) := by
  funext j
  have hb : ∀ a, (![1 - (i 1).val % 2, 0, 0, 0] : Fin 4 → ℕ) a + S1x8x512x128.size a ≤ S2x8x512x128.size a := by
    intro a
    match a with
    | ⟨0, _⟩ => show 1 - (i 1).val % 2 + 1 ≤ 2; omega
    | ⟨1, _⟩ => show 0 + 8 ≤ 8; omega
    | ⟨2, _⟩ => show 0 + 512 ≤ 512; omega
    | ⟨3, _⟩ => show 0 + 128 ≤ 128; omega
  have hm : (ix4 (prvSlot i) (j 1) (j 2) (j 3) : S2x8x512x128.Idx)
      ∈ (Rect.unit (s := S2x8x512x128) ![1 - (i 1).val % 2, 0, 0, 0] S1x8x512x128.size hb).set := by
    have h0 : (j 0).val < 1 := (j 0).isLt
    have e : (ix4 (prvSlot i) (j 1) (j 2) (j 3) : S2x8x512x128.Idx)
        = (Rect.unit (s := S2x8x512x128) ![1 - (i 1).val % 2, 0, 0, 0] S1x8x512x128.size hb).idx j := by
      refine idx4_ext ?_ ?_ ?_ ?_
      · show 1 - (i 1).val % 2 = 1 - (i 1).val % 2 + 1 * (j 0).val; omega
      · show (j 1).val = 0 + 1 * (j 1).val; omega
      · show (j 2).val = 0 + 1 * (j 2).val; omega
      · show (j 3).val = 0 + 1 * (j 3).val; omega
    rw [e]
    exact (Rect.unit (s := S2x8x512x128) ![1 - (i 1).val % 2, 0, 0, 0] S1x8x512x128.size hb).idx_mem j
  have hs := sep2 i
  rw [k0_off2_eq] at hs
  have hd := slot_disjoint M _ (k0_off1 i) S1x8x512x128.size S1x8x512x128.size hb (k0_off1_inb i) (fun _ => rfl)
    squeezes_S1x8x512x128_S8x512x128 hs
  unfold slot
  rw [View.read_apply, View.read_apply]
  refine congrArg _ (write_eq_on_disjoint (v := (copyWin M i).view) hd g p _ ?_)
  exact Finset.mem_map_of_mem M.view.emb hm

/-- A store over the slot a point reads, read back. -/
theorem slot_prv_store (M : Memref sig .tc .vmem S2x8x512x128 .f32) (i : grid0.Coords) (g : M.view.ty.Contents (Elt F)) (p : Vec F S1x8x512x128 .f32)
    (hb : ∀ a, k0_off2 i a + S1x8x512x128.size a ≤ S2x8x512x128.size a) :
    slot (prvSlot i) (M.view.read (Elt F) (M.view.writes (Elt F) g [⟨Rect.unit (s := S2x8x512x128) (k0_off2 i) S1x8x512x128.size hb, p⟩])) = p := by
  rw [View.read_writes_cons_put M.view g hb p [] (k0_off2_eq i)]
  funext j
  have h0 : (j 0).val < 1 := (j 0).isLt
  have h1 : (j 1).val < 8 := (j 1).isLt
  have h2 : (j 2).val < 512 := (j 2).isLt
  have h3 : (j 3).val < 128 := (j 3).isLt
  unfold slot VecWindow.put
  rw [dif_pos]
  · refine congrArg p (idx4_ext (n0 := 1) (n1 := 8) (n2 := 512) (n3 := 128) ?_ ?_ ?_ ?_)
    · show 1 - (i 1).val % 2 - (1 - (i 1).val % 2) = (j 0).val; omega
    · show (j 1).val - 0 = (j 1).val; omega
    · show (j 2).val - 0 = (j 2).val; omega
    · show (j 3).val - 0 = (j 3).val; omega
  · intro a
    match a with
    | ⟨0, _⟩ => show 1 - (i 1).val % 2 ≤ 1 - (i 1).val % 2 ∧ 1 - (i 1).val % 2 < 1 - (i 1).val % 2 + 1; omega
    | ⟨1, _⟩ => show 0 ≤ (j 1).val ∧ (j 1).val < 0 + 8; omega
    | ⟨2, _⟩ => show 0 ≤ (j 2).val ∧ (j 2).val < 0 + 512; omega
    | ⟨3, _⟩ => show 0 ≤ (j 3).val ∧ (j 3).val < 0 + 128; omega

/-- and the slot the point fills is as it was. -/
theorem slot_cur_store (M : Memref sig .tc .vmem S2x8x512x128 .f32) (i : grid0.Coords) (g : M.view.ty.Contents (Elt F)) (p : Vec F S1x8x512x128 .f32)
    (hb : ∀ a, k0_off2 i a + S1x8x512x128.size a ≤ S2x8x512x128.size a) :
    slot (curSlot i) (M.view.read (Elt F) (M.view.writes (Elt F) g [⟨Rect.unit (s := S2x8x512x128) (k0_off2 i) S1x8x512x128.size hb, p⟩]))
      = slot (curSlot i) (M.view.read (Elt F) g) := by
  rw [View.read_writes_cons_put M.view g hb p [] (k0_off2_eq i)]
  funext j
  unfold slot VecWindow.put
  rw [dif_neg]
  · rfl
  · intro h
    have h' := h 0
    change 1 - (i 1).val % 2 ≤ (i 1).val % 2 ∧ (i 1).val % 2 < 1 - (i 1).val % 2 + 1 at h'
    omega

end Cert.KernelIdeal.Hand

end
-- ==== Proof.Body.lean ====
module

public import proofs.«01_k».proof.Proof.Carried
public import Idealize.ShloMosaic.Lib.Ring
public import Idealize.ShloMosaic.Lib.WordCmp

/-!
# The run of one grid point

From the three input blocks, the two carried buffers and the two copy cells at zero, a grid point leaves the output
block `outBlk`, the input blocks as they were, the slot of its own parity at its own key block (value block), and the
cells at zero. The first point of a head group reads a zeroed value slot; every other point the slot as it finds it.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's user algebra: the pipeline library's beside the transfers' counters. -/
local notation "𝕄" => MT nD τ sig Unit (Elt F) ℕ (Pipeline.UD sig nD τ) ℕ

/-- Rows 0 to 255 of a point's output: `w` the point's second coordinate, `q` its query block, `kp`/`vp` the key and
    value block before its own, `kc`/`vc` its own. -/
def outA (w : BitVec 32) (q kp kc vp vc : Vec F S1x8x512x128 .f32) : Vec F S1x8x256x128 .f32 :=
  k0_pay1 (k0_pay24 (k0_pay12 w (k0_pay5 q) (k0_pay7 (lo kp))) (k0_pay13 w (k0_pay5 q) (k0_pay8 (hi kp))) (k0_pay14 (k0_pay5 q) (lo kc))
    (k0_pay18 w (k0_pay5 q) (k0_pay7 (lo kp))) (k0_pay19 w (k0_pay5 q) (k0_pay8 (hi kp))) (lo vp) (hi vp) (lo vc))

/-- Rows 256 to 511 of it. -/
def outB (w : BitVec 32) (q kp kc vp vc : Vec F S1x8x512x128 .f32) : Vec F S1x8x256x128 .f32 :=
  k0_pay2 (k0_pay20 (k0_pay15 w (k0_pay6 q) (k0_pay8 (hi kp))) (k0_pay16 (k0_pay6 q) (lo kc)) (k0_pay17 (k0_pay6 q) (hi kc)))
    (k0_pay23 (k0_pay15 w (k0_pay6 q) (k0_pay8 (hi kp))) (k0_pay16 (k0_pay6 q) (lo kc)) (k0_pay17 (k0_pay6 q) (hi kc))
      (hi vp) (lo vc) (hi vc))

/-- A block whose first 256 rows are `a` and whose last 256 rows are `b`. -/
def stack2 (a b : Vec F S1x8x256x128 .f32) : Vec F S1x8x512x128 .f32 := fun y =>
  if h : (y 2).val < 256 then a (ix4 (y 0) (y 1) ⟨(y 2).val, h⟩ (y 3))
  else b (ix4 (y 0) (y 1) ⟨(y 2).val - 256, by have h2 : (y 2).val < 512 := (y 2).isLt; omega⟩ (y 3))

/-- What a grid point leaves in its output block. -/
def outBlk (w : BitVec 32) (q kp kc vp vc : Vec F S1x8x512x128 .f32) : Vec F S1x8x512x128 .f32 :=
  stack2 (outA w q kp kc vp vc) (outB w q kp kc vp vc)

/-- The two pieces a point stores are those of `outBlk`, each load being what it is. -/
theorem assemble {w : BitVec 32} {q x2 kp x3 vp x4 : Vec F S1x8x512x128 .f32} {kp0 kp1 kd0 kd1 vp0 vp1 vd0 vd1 : Vec F S1x8x256x128 .f32}
    (hq : q = x2) (e1 : kp0 = lo kp) (e2 : kp1 = hi kp) (e3 : kd0 = lo x3) (e4 : kd1 = hi x3)
    (e5 : vp0 = lo vp) (e6 : vp1 = hi vp) (e7 : vd0 = lo x4) (e8 : vd1 = hi x4) :
    stack2
      (k0_pay1 (k0_pay24 (k0_pay12 w (k0_pay5 q) (k0_pay7 kp0)) (k0_pay13 w (k0_pay5 q) (k0_pay8 kp1)) (k0_pay14 (k0_pay5 q) kd0)
        (k0_pay18 w (k0_pay5 q) (k0_pay7 kp0)) (k0_pay19 w (k0_pay5 q) (k0_pay8 kp1)) vp0 vp1 vd0))
      (k0_pay2 (k0_pay20 (k0_pay15 w (k0_pay6 q) (k0_pay8 kp1)) (k0_pay16 (k0_pay6 q) kd0) (k0_pay17 (k0_pay6 q) kd1))
        (k0_pay23 (k0_pay15 w (k0_pay6 q) (k0_pay8 kp1)) (k0_pay16 (k0_pay6 q) kd0) (k0_pay17 (k0_pay6 q) kd1) vp1 vd0 vd1))
      = outBlk w x2 kp x3 vp x4 := by
  subst hq e1 e2 e3 e4 e5 e6 e7 e8; rfl

/-- The two stores of a point, read back. -/
theorem read_two_stores (v : View sig .tc .vmem S1x8x512x128 .f32) (f : v.ty.Contents (Elt F)) (a b : Vec F S1x8x256x128 .f32)
    (h1 : ∀ x, (![0, 0, 256, 0] : Fin 4 → ℕ) x + S1x8x256x128.size x ≤ S1x8x512x128.size x)
    (h0 : ∀ x, (![0, 0, 0, 0] : Fin 4 → ℕ) x + S1x8x256x128.size x ≤ S1x8x512x128.size x) :
    v.read (Elt F) (v.writes (Elt F) f [⟨Rect.unit (s := S1x8x512x128) ![0, 0, 256, 0] S1x8x256x128.size h1, b⟩,
      ⟨Rect.unit (s := S1x8x512x128) ![0, 0, 0, 0] S1x8x256x128.size h0, a⟩]) = stack2 a b := by
  rw [View.read_writes_cons_put v f h1 b _ rfl, View.read_writes_cons_put v f h0 a [] rfl]
  funext y
  have y0 : (y 0).val < 1 := (y 0).isLt
  have y1 : (y 1).val < 8 := (y 1).isLt
  have y2 : (y 2).val < 512 := (y 2).isLt
  have y3 : (y 3).val < 128 := (y 3).isLt
  unfold stack2 VecWindow.put
  by_cases h : (y 2).val < 256
  · rw [dif_neg, dif_pos, dif_pos h]
    · refine congrArg a (idx4_ext (n0 := 1) (n1 := 8) (n2 := 256) (n3 := 128) ?_ ?_ ?_ ?_)
      · show (y 0).val - 0 = (y 0).val; omega
      · show (y 1).val - 0 = (y 1).val; omega
      · show (y 2).val - 0 = (y 2).val; omega
      · show (y 3).val - 0 = (y 3).val; omega
    · intro x
      match x with
      | ⟨0, _⟩ => show 0 ≤ (y 0).val ∧ (y 0).val < 0 + 1; omega
      | ⟨1, _⟩ => show 0 ≤ (y 1).val ∧ (y 1).val < 0 + 8; omega
      | ⟨2, _⟩ => show 0 ≤ (y 2).val ∧ (y 2).val < 0 + 256; omega
      | ⟨3, _⟩ => show 0 ≤ (y 3).val ∧ (y 3).val < 0 + 128; omega
    · intro hx
      have h' := hx 2
      change 256 ≤ (y 2).val ∧ (y 2).val < 256 + 256 at h'
      omega
  · rw [dif_pos, dif_neg h]
    · refine congrArg b (idx4_ext (n0 := 1) (n1 := 8) (n2 := 256) (n3 := 128) ?_ ?_ ?_ ?_)
      · show (y 0).val - 0 = (y 0).val; omega
      · show (y 1).val - 0 = (y 1).val; omega
      · show (y 2).val - 256 = (y 2).val - 256; omega
      · show (y 3).val - 0 = (y 3).val; omega
    · intro x
      match x with
      | ⟨0, _⟩ => show 0 ≤ (y 0).val ∧ (y 0).val < 0 + 1; omega
      | ⟨1, _⟩ => show 0 ≤ (y 1).val ∧ (y 1).val < 0 + 8; omega
      | ⟨2, _⟩ => show 256 ≤ (y 2).val ∧ (y 2).val < 256 + 256; omega
      | ⟨3, _⟩ => show 0 ≤ (y 3).val ∧ (y 3).val < 0 + 128; omega

/-- A load of one half of the previous slot, when the slot has just been stored, reads that half of what was stored. -/
theorem readCov_store_lo (M : Memref sig .tc .vmem S2x8x512x128 .f32) (i : grid0.Coords) (p : Vec F S1x8x512x128 .f32)
    (hb : ∀ a, k0_off2 i a + S1x8x512x128.size a ≤ S2x8x512x128.size a)
    (hb' : ∀ a, k0_off3 i a + S1x8x256x128.size a ≤ S2x8x512x128.size a) :
    M.view.readCov [(⟨Rect.unit (s := S2x8x512x128) (k0_off2 i) S1x8x512x128.size hb, p⟩ : View.Piece (Elt F) S2x8x512x128 .f32)]
        (Rect.unit (s := S2x8x512x128) (k0_off3 i) S1x8x256x128.size hb').toLoadRect = lo p := by
  have h := readAt_slot_lo M i (M.view.writes (Elt F) M.view.junk [⟨Rect.unit (s := S2x8x512x128) (k0_off2 i) S1x8x512x128.size hb, p⟩]) hb'
  rw [slot_prv_store M i _ p hb, View.readAt_writes_junk_eq_canon] at h
  rw [View.readCov_eq_canon']
  exact h

/-- A load of one half of the previous slot, when the slot has just been stored, reads that half of what was stored. -/
theorem readCov_store_hi (M : Memref sig .tc .vmem S2x8x512x128 .f32) (i : grid0.Coords) (p : Vec F S1x8x512x128 .f32)
    (hb : ∀ a, k0_off2 i a + S1x8x512x128.size a ≤ S2x8x512x128.size a)
    (hb' : ∀ a, k0_off4 i a + S1x8x256x128.size a ≤ S2x8x512x128.size a) :
    M.view.readCov [(⟨Rect.unit (s := S2x8x512x128) (k0_off2 i) S1x8x512x128.size hb, p⟩ : View.Piece (Elt F) S2x8x512x128 .f32)]
        (Rect.unit (s := S2x8x512x128) (k0_off4 i) S1x8x256x128.size hb').toLoadRect = hi p := by
  have h := readAt_slot_hi M i (M.view.writes (Elt F) M.view.junk [⟨Rect.unit (s := S2x8x512x128) (k0_off2 i) S1x8x512x128.size hb, p⟩]) hb'
  rw [slot_prv_store M i _ p hb, View.readAt_writes_junk_eq_canon] at h
  rw [View.readCov_eq_canon']
  exact h

/-- What the value slot read by a point holds when it is read: zeros at a head group's first point, which stores them. -/
def vPrev (i : grid0.Coords) (dV : Vec F S2x8x512x128 .f32) : Vec F S1x8x512x128 .f32 :=
  if k0_cond1 i = 1#1 then k0_pay3 else slot (prvSlot i) dV

set_option maxHeartbeats 1000000 in
/-- The run of one grid point. -/
theorem body_run (c : Dev nD) (i : grid0.Coords) (arg2 : Memref sig .tc .vmem S1x8x512x128 .f32) (harg2 : arg2.IsWhole)
    (arg3 : Memref sig .tc .vmem S1x8x512x128 .f32) (harg3 : arg3.IsWhole)
    (arg4 : Memref sig .tc .vmem S1x8x512x128 .f32) (harg4 : arg4.IsWhole)
    (arg5 : Memref sig .tc .vmem S1x8x512x128 .f32) (harg5 : arg5.IsWhole)
    (x2 x3 x4 : Vec F S1x8x512x128 .f32) (dK dV : Vec F S2x8x512x128 .f32) :
      ∀ (W : Waits sig Unit) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d)
            ∗ owns (c : Thread nD τ) scK fullShare dK ∗ owns (c : Thread nD τ) scV fullShare dV
            ∗ semVal ((c : Thread nD τ), SemLoc.dma 8) 0 ∗ semVal ((c : Thread nD τ), SemLoc.dma 9) 0
            ∗ owes (c : Thread nD τ) 0 W
            ∗ (iprop(owns (c : Thread nD τ) arg2 fullShare x2 ∗ owns (c : Thread nD τ) arg3 fullShare x3 ∗ owns (c : Thread nD τ) arg4 fullShare x4
                ∗ owns (c : Thread nD τ) arg5 fullShare (outBlk (BitVec.ofNat 32 (i 1).val) x2 (slot (prvSlot i) dK) x3 (vPrev i dV) x4)
                ∗ (∃ d, ⌜slot (curSlot i) d = x3⌝ ∗ owns (c : Thread nD τ) scK fullShare d)
                ∗ (∃ d, ⌜slot (curSlot i) d = x4⌝ ∗ owns (c : Thread nD τ) scV fullShare d)
                ∗ semVal ((c : Thread nD τ), SemLoc.dma 8) 0 ∗ semVal ((c : Thread nD τ), SemLoc.dma 9) 0
                ∗ (∃ W', owes (c : Thread nD τ) 0 W')) -∗ K ⟨⟩))
          ⊢ wp frame (wpE (defs₀ (F := F)) Variants.none c none) Set.univ
              (cc0__attn_block_kernel i arg2 harg2 arg3 harg3 arg4 harg4 arg5 harg5
                scK (Memref.isWhole_whole _) scV (Memref.isWhole_whole _) cc0_scratch2 cc0_scratch3) K := by
  intro W K
  have dV2 := fun h h' hd => slot_disjoint scV (k0_off2 i) (k0_off1 i) S1x8x512x128.size S1x8x512x128.size h h' hd squeezes_S1x8x512x128_S8x512x128 (sep2 i)
  have dV2s := fun h h' hd => slot_disjoint_store scV (k0_off2 i) (k0_off1 i) S1x8x512x128.size S1x8x512x128.size h h' hd squeezes_S1x8x512x128_S8x512x128 (sep2 i)
  have dV3 := fun h h' hd => slot_disjoint scV (k0_off3 i) (k0_off1 i) S1x8x256x128.size S1x8x512x128.size h h' hd squeezes_S1x8x512x128_S8x512x128 (sep3 i)
  have dV4 := fun h h' hd => slot_disjoint scV (k0_off4 i) (k0_off1 i) S1x8x256x128.size S1x8x512x128.size h h' hd squeezes_S1x8x512x128_S8x512x128 (sep4 i)
  have dK3 := fun h h' hd => slot_disjoint scK (k0_off3 i) (k0_off1 i) S1x8x256x128.size S1x8x512x128.size h h' hd squeezes_S1x8x512x128_S8x512x128 (sep3 i)
  have dK4 := fun h h' hd => slot_disjoint scK (k0_off4 i) (k0_off1 i) S1x8x256x128.size S1x8x512x128.size h h' hd squeezes_S1x8x512x128_S8x512x128 (sep4 i)
  by_cases hC : k0_cond1 i = 1#1
  all_goals
    simp only [cc0__attn_block_kernel_eq_skeleton]
    unfold cc0__attn_block_kernel_skel
    simp only [k0_part1_eq_skeleton, k0_part2_eq_skeleton, k0_part3_eq_skeleton]
    unfold k0_part1_skel k0_part2_skel k0_part3_skel
    unfold owns
    iintro ⟨⟨%f2, %h2, H2⟩, ⟨%f3, %h3, H3⟩, ⟨%f4, %h4, H4⟩, ⟨%d5, %f5, -, H5⟩, ⟨%gK, %hgK, HK⟩, ⟨%gV, %hgV, HV⟩, Hq0, Hq1, HW, Hk⟩
    set_option sl_exec.dmaWindow true in
    set_option sl_exec.dmaWindowSet true in
    set_option sl_exec.dmaWindowLent true in
    set_option sl_exec.lendShare "H3, H4" in
    sl_exec
    sl_step
    iapply Hk
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro
      refine (read_two_stores arg5.view f5 _ _ _ _).trans ?_
      dsimp only
      refine assemble ((View.readAt_full arg2.view f2 _).trans h2) ?_ ?_ (readAt_lo arg3 f3 h3) (readAt_hi arg3 f3 h3) ?_ ?_
        (readAt_lo arg4 f4 h4) (readAt_hi arg4 f4 h4)
      · exact (readAt_slot_lo scK i _ _).trans (congrArg lo ((slot_prv_copy scK i gK _).trans (congrArg _ hgK)))
      · exact (readAt_slot_hi scK i _ _).trans (congrArg hi ((slot_prv_copy scK i gK _).trans (congrArg _ hgK)))
      · first
          | have e : vPrev i dV = k0_pay3 := if_pos hC
            rw [e]
            exact readCov_store_lo scV i k0_pay3 _ _
          | have e : vPrev i dV = slot (prvSlot i) dV := if_neg hC
            rw [e]
            exact (readAt_slot_lo scV i _ _).trans (congrArg lo ((slot_prv_copy scV i gV _).trans (congrArg _ hgV)))
      · first
          | have e : vPrev i dV = k0_pay3 := if_pos hC
            rw [e]
            exact readCov_store_hi scV i k0_pay3 _ _
          | have e : vPrev i dV = slot (prvSlot i) dV := if_neg hC
            rw [e]
            exact (readAt_slot_hi scV i _ _).trans (congrArg hi ((slot_prv_copy scV i gV _).trans (congrArg _ hgV)))
    isplitl [HK]
    · iexists _; isplitr; swap
      · iexists _; isplitr; swap; · iexact HK
        ipureintro; rfl
      ipureintro
      exact slot_cur_copy scK i gK arg3 f3 h3
    isplitl [HV]
    · iexists _; isplitr; swap
      · iexists _; isplitr; swap; · iexact HV
        ipureintro; rfl
      ipureintro
      first
        | have e : k0_cond1 i = 1#1 := hC
          exact (slot_cur_store scV i _ _ _).trans (slot_cur_copy scV i gV arg4 f4 h4)
        | exact slot_cur_copy scV i gV arg4 f4 h4
    isplitl [Hq0]; · iexact Hq0
    isplitl [Hq1]; · iexact Hq1
    iexists _; iexact HW

end Cert.KernelIdeal.Hand

end
-- ==== Proof.Frame.lean ====
module

public import proofs.«01_k».proof.Proof.Body
public import proofs.«01_k».proof.Proof.Gen.KernelIdeal.Frame

/-!
# The frame of the kernel, at any float values

The pipeline's proof data: what each window's buffer holds after each of the eight points, and what the two carried
buffers hold between points (the slot that the next point reads as "previous" holds the previous point's key block and
value block, unless the next point starts a head group). From it the run of `main`: it terminates, leaves the arguments
unchanged and every semaphore at zero, and leaves in the output array the blocks the points produced.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The grid -/

/-- The point before `t` (point 0 for itself). -/
def prevPt (t : Fin grid0.N) : Fin grid0.N := ⟨t.val - 1, lt_of_le_of_lt (Nat.sub_le _ _) t.isLt⟩

/-- A point starts a head group when its number is a multiple of four. -/
theorem cond_iff : ∀ t : Fin grid0.N, k0_cond1 (grid0.coords t) = 1#1 ↔ t.val % 4 = 0 := by decide
/-- The second coordinate of a point is its number modulo four. -/
theorem coord1 : ∀ t : Fin grid0.N, (grid0.coords t 1).val = t.val % 4 := by decide
/-- The first coordinate of a point is its number divided by four. -/
theorem coord0 : ∀ t : Fin grid0.N, (grid0.coords t 0).val = t.val / 4 := by decide
/-- The slot a point fills is the one the next point reads as the previous. -/
theorem slot_next : ∀ s t : Fin grid0.N, s.val = t.val + 1 → prvSlot (grid0.coords s) = curSlot (grid0.coords t) := by decide

/-! ## At the first point of a head group the previous key block is not used -/

/-- A choice made by a mask that is nowhere set does not depend on its first value. -/
theorem select_off {s : Shape} {α : Type} (c : IVec s 1) (a a' b : s.Idx → α) (h : ∀ y, c y ≠ 1#1) : select c a b = select c a' b := by
  funext y
  show (if c y = 1 then a y else b y) = if c y = 1 then a' y else b y
  exact (if_neg (h y)).trans (if_neg (h y)).symm

theorem and_zero_off {s : Shape} (c : IVec s 1) (y : s.Idx) : andi c (broadcast s (0#1 : BitVec 1)) y ≠ 1#1 := by
  show (c y &&& 0#1) ≠ 1#1
  simp

theorem sgt_zero : Scalar.cmpi .sgt (BitVec.ofNat 32 0) 0#32 = 0#1 := by decide

theorem pay12_first (a b b' : FVec F S8x256x128 .f32) : k0_pay12 (BitVec.ofNat 32 0) a b = k0_pay12 (BitVec.ofNat 32 0) a b' := by
  unfold k0_pay12
  rw [sgt_zero]
  exact congrArg exp2 (select_off _ _ _ _ (and_zero_off _))
theorem pay13_first (a b b' : FVec F S8x256x128 .f32) : k0_pay13 (BitVec.ofNat 32 0) a b = k0_pay13 (BitVec.ofNat 32 0) a b' := by
  unfold k0_pay13
  rw [sgt_zero]
  rfl
theorem pay15_first (a b b' : FVec F S8x256x128 .f32) : k0_pay15 (BitVec.ofNat 32 0) a b = k0_pay15 (BitVec.ofNat 32 0) a b' := by
  unfold k0_pay15
  rw [sgt_zero]
  exact congrArg exp2 (select_off _ _ _ _ (and_zero_off _))

/-- What a head group's first point computes does not depend on the previous key block. -/
theorem first_indep (q kp kp' kc vp vc : Vec F S1x8x512x128 .f32) :
    outBlk (BitVec.ofNat 32 0) q kp kc vp vc = outBlk (BitVec.ofNat 32 0) q kp' kc vp vc := by
  unfold outBlk outA outB k0_pay18 k0_pay19
  rw [pay12_first _ (k0_pay7 (lo kp)) (k0_pay7 (lo kp')), pay13_first _ (k0_pay8 (hi kp)) (k0_pay8 (hi kp')),
    pay15_first _ (k0_pay8 (hi kp)) (k0_pay8 (hi kp'))]

/-! ## The proof data -/

/-- The query, key and value block of a point. -/
abbrev qBlk (c : Dev nD) (t : Fin grid0.N) : Vec F S1x8x512x128 .f32 := iblk m c 0 t
abbrev kBlk (c : Dev nD) (t : Fin grid0.N) : Vec F S1x8x512x128 .f32 := iblk m c 1 t
abbrev vBlk (c : Dev nD) (t : Fin grid0.N) : Vec F S1x8x512x128 .f32 := iblk m c 2 t

/-- The values a point reads as "previous": zeros at a head group's first point, else the previous point's block. -/
def vPrevBlk (c : Dev nD) (t : Fin grid0.N) : Vec F S1x8x512x128 .f32 :=
  if t.val % 4 = 0 then k0_pay3 else vBlk m c (prevPt t)

/-- What point `t` leaves in its output block. -/
def outAt (c : Dev nD) (t : Fin grid0.N) : Vec F S1x8x512x128 .f32 :=
  outBlk (BitVec.ofNat 32 (t.val % 4)) (qBlk m c t) (kBlk m c (prevPt t)) (kBlk m c t) (vPrevBlk m c t) (vBlk m c t)

/-- What the carried buffers hold before point number `t`: in the slot that point reads, the previous point's blocks,
    unless it starts a head group. -/
def Held (c : Dev nD) (t : ℕ) (dK dV : Vec F S2x8x512x128 .f32) : Prop :=
  ∀ s : Fin grid0.N, s.val = t → t % 4 ≠ 0 →
    slot (prvSlot (grid0.coords s)) dK = kBlk m c (prevPt s) ∧ slot (prvSlot (grid0.coords s)) dV = vBlk m c (prevPt s)

/-- The invariant between points: the carried buffers, the generator's register, the copy cells at zero. -/
def carried (c : Dev nD) (t : ℕ) : sProp 𝕄 :=
  iprop((∃ dK dV, ⌜Held m c t dK dV⌝ ∗ owns (c : Thread nD τ) scK fullShare dK ∗ owns (c : Thread nD τ) scV fullShare dV)
    ∗ (∃ r, prngReg c r)
    ∗ semVal ((c : Thread nD τ), SemLoc.dma 8) 0 ∗ semVal ((c : Thread nD τ), SemLoc.dma 9) 0)

/-- The two copy cells. -/
abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
/-- The kernel addresses no array by itself. -/
def H0 : Finset (Ref sig .tc) := ∅
theorem H0_sub : H0 ⊆ Pipeline.restRefs sig spec0 := Finset.empty_subset _

theorem PhiD0_eq (c : Dev nD) :
    (Pipeline.ΦD osem0 spec0 H0 (V m) c : sProp 𝕄)
      = iprop(((∃ d, owns (c : Thread nD τ) scK fullShare d) ∗ (∃ d, owns (c : Thread nD τ) scV fullShare d))
          ∗ (∃ r, prngReg c r)
          ∗ (semVal ((c : Thread nD τ), SemLoc.dma 8) 0 ∗ semVal ((c : Thread nD τ), SemLoc.dma 9) 0)
          ∗ BI.emp) := by
  rw [Pipeline.ΦD_eq, scopedRest0_eq, ownSems00_eq]
  simp only [scK, scV, owns_whole]; try rfl

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => qBlk m c t
    | ⟨1, _⟩ => kBlk m c t
    | ⟨2, _⟩ => vBlk m c t
    | ⟨3, _⟩ => outAt m c t
  Φ t := carried m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = qBlk m c t := by dsimp only [dats]
theorem after0_1 (c : Dev nD) (t : Fin cfg0.N) : (dats m 0 c).after 1 t = kBlk m c t := by dsimp only [dats]
theorem after0_2 (c : Dev nD) (t : Fin cfg0.N) : (dats m 0 c).after 2 t = vBlk m c t := by dsimp only [dats]
theorem after0_3 (c : Dev nD) (t : Fin cfg0.N) : (dats m 0 c).after 3 t = outAt m c t := by dsimp only [dats]

/-- An input's buffer holds the input's block at every point. -/
theorem before0_0 (c : Dev nD) (t : Fin cfg0.N) (d) : (dats m 0 c).before 0 t d = qBlk m c t :=
  ((dats m 0 c).before_in_eq_fetched 0 rfl (fun _ => rfl) (fun _ _ _ => rfl) (fun t => by rw [after0_0]; unfold Dat.blockOf qBlk iblk; rw [A_eq]; try rfl) t d).trans
    (by unfold Dat.fetched Dat.blockOf qBlk iblk; rw [A_eq]; try rfl)
theorem before0_1 (c : Dev nD) (t : Fin cfg0.N) (d) : (dats m 0 c).before 1 t d = kBlk m c t :=
  ((dats m 0 c).before_in_eq_fetched 1 rfl (fun _ => rfl) (fun _ _ _ => rfl) (fun t => by rw [after0_1]; unfold Dat.blockOf kBlk iblk; rw [A_eq]; try rfl) t d).trans
    (by unfold Dat.fetched Dat.blockOf kBlk iblk; rw [A_eq]; try rfl)
theorem before0_2 (c : Dev nD) (t : Fin cfg0.N) (d) : (dats m 0 c).before 2 t d = vBlk m c t :=
  ((dats m 0 c).before_in_eq_fetched 2 rfl (fun _ => rfl) (fun _ _ _ => rfl) (fun t => by rw [after0_2]; unfold Dat.blockOf vBlk iblk; rw [A_eq]; try rfl) t d).trans
    (by unfold Dat.fetched Dat.blockOf vBlk iblk; rw [A_eq]; try rfl)

/-! ## The body obligation -/

/-- What the run of a point leaves in its output block is `outAt`, the carried buffers being as the invariant says. -/
theorem out_eq (c : Dev nD) (t : Fin grid0.N) (dK dV : Vec F S2x8x512x128 .f32) (h : Held m c t.val dK dV) :
    outBlk (BitVec.ofNat 32 (grid0.coords t 1).val) (qBlk m c t) (slot (prvSlot (grid0.coords t)) dK) (kBlk m c t)
      (vPrev (grid0.coords t) dV) (vBlk m c t) = outAt m c t := by
  unfold outAt vPrev vPrevBlk
  rw [coord1]
  by_cases h0 : t.val % 4 = 0
  · rw [if_pos ((cond_iff t).mpr h0), if_pos h0, h0]
    exact first_indep _ _ _ _ _ _
  · rw [if_neg (fun e => h0 ((cond_iff t).mp e)), if_neg h0, (h t rfl h0).1, (h t rfl h0).2]

/-- The invariant's content after a point: the slot it filled is the next point's previous slot. -/
theorem held_next (c : Dev nD) (t : Fin grid0.N) (dK dV : Vec F S2x8x512x128 .f32)
    (hK : slot (curSlot (grid0.coords t)) dK = kBlk m c t) (hV : slot (curSlot (grid0.coords t)) dV = vBlk m c t) :
    Held m c (t.val + 1) dK dV := by
  intro s hs _
  have e : prevPt s = t := Fin.ext (by show s.val - 1 = t.val; omega)
  rw [slot_next s t hs, e]
  exact ⟨hK, hV⟩

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- One point's body, from the pipeline's state before it to the pipeline's state after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1, after0_2, after0_3]
  rw [show (dats m 0 c).Φ t.castSucc = carried m c t.val from rfl, show (dats m 0 c).Φ t.succ = carried m c (t.val + 1) from rfl]
  unfold Dat.owesAt Pipeline.owesWithin
  rw [show (dats m 0 c).owed t.castSucc = 0 from rfl, show (dats m 0 c).owed t.succ = 0 from rfl]
  unfold carried
  iintro ⟨⟨⟨%dK, %dV, %hH, HK, HV⟩, Hg, Hq0, Hq1⟩, ⟨%W, -, HW⟩, ⟨%d0, H0⟩, ⟨%d1, H1⟩, ⟨%d2, H2⟩, ⟨%d3, H3⟩⟩
  iapply (body_run c (grid0.coords t) _ _ _ _ _ _ _ _ (qBlk m c t) (kBlk m c t) (vBlk m c t) dK dV W _)
  isplitl [H0]; · iexact H0
  isplitl [H1]; · iexact H1
  isplitl [H2]; · iexact H2
  isplitl [H3]; · iexists _; iexact H3
  isplitl [HK]; · iexact HK
  isplitl [HV]; · iexact HV
  isplitl [Hq0]; · iexact Hq0
  isplitl [Hq1]; · iexact Hq1
  isplitl [HW]; · iexact HW
  rw [out_eq m c t dK dV hH]
  iintro ⟨H0, H1, H2, H3, ⟨%eK, %hK, HK⟩, ⟨%eV, %hV, HV⟩, Hq0, Hq1, ⟨%W', HW'⟩⟩
  isplitl [HK HV Hg Hq0 Hq1]
  · isplitl [HK HV]
    · iexists eK, eV
      isplitr; · ipureintro; exact held_next m c t eK eV hK hV
      isplitl [HK]; · iexact HK
      iexact HV
    isplitl [Hg]; · iexact Hg
    isplitl [Hq0]; · iexact Hq0
    iexact Hq1
  isplitl [HW']
  · iexists W'; isplitr; · ipureintro; exact fun _ _ => Or.inl trivial
    iexact HW'
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- At launch the carried buffers may hold anything: point 0 starts a head group. -/
theorem enter (c : Dev nD) : Pipeline.ΦD osem0 spec0 H0 (V m) c ⊢ (dats m 0 c).Φ 0 := by
  rw [PhiD0_eq, show (dats m 0 c).Φ 0 = carried m c 0 from rfl]
  unfold carried
  iintro ⟨⟨⟨%dK, HK⟩, ⟨%dV, HV⟩⟩, Hg, ⟨Hq0, Hq1⟩, -⟩
  isplitl [HK HV]
  · iexists dK, dV
    isplitr; · ipureintro; exact fun _ _ h => absurd rfl h
    isplitl [HK]; · iexact HK
    iexact HV
  isplitl [Hg]; · iexact Hg
  isplitl [Hq0]; · iexact Hq0
  iexact Hq1

theorem leave (c : Dev nD) : (dats m 0 c).Φ (Fin.last cfg0.N) ⊢ Pipeline.ΦD osem0 spec0 H0 (V m) c := by
  rw [PhiD0_eq, show (dats m 0 c).Φ (Fin.last cfg0.N) = carried m c cfg0.N from rfl]
  unfold carried
  iintro ⟨⟨%dK, %dV, -, HK, HV⟩, Hg, Hq0, Hq1⟩
  isplitl [HK HV]
  · isplitl [HK]; · iexists dK; iexact HK
    iexists dV; iexact HV
  isplitl [Hg]; · iexact Hg
  isplitl [Hq0 Hq1]
  · isplitl [Hq0]; · iexact Hq0
    iexact Hq1
  iempintro

set_option backward.isDefEq.respectTransparency.types false in
/-- The run of `main`, its arrays as the proof data says and every semaphore at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := enter m) (hout := leave m)

/-- The run of `main` read at its arrays: the output array as the proof data says, the arguments unchanged, every
    semaphore at zero. -/
theorem run_out : θ_run defs (onTc (τ := τ) (main (F := F))) ⟨m, fun _ => 0, ρ⟩ (fun r => (∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c).1 3,
       ((h.1 c).1 0).trans (((dats m 0 c).arrAt_in 0 rfl _).trans ((A_eq m c 0).trans rfl)),
       ((h.1 c).1 1).trans (((dats m 0 c).arrAt_in 1 rfl _).trans ((A_eq m c 1).trans rfl)),
       ((h.1 c).1 2).trans (((dats m 0 c).arrAt_in 2 rfl _).trans ((A_eq m c 2).trans rfl))⟩, h.2⟩) (run_main m ρ)

end Cert.KernelIdeal.Hand

end
-- ==== Proof.Claims.lean ====
module

public import proofs.«01_k».proof.Defs
public import proofs.«01_k».proof.Proof.Frame
public import proofs.«01_k».proof.Proof.Gen.Kernel
public import proofs.«01_k».proof.Proof.Gen.Reference
public import proofs.«01_k».proof.Proof.Gen.ReferenceIdeal
public import proofs.«01_k».proof.Proof.Gen.Reference.Run
public import proofs.«01_k».proof.Proof.Gen.ReferenceIdeal.Run
public import proofs.«01_k».proof.Proof.Gen.Pre_finite

/-!
# The frames and the named constants

The kernel's text as printed is the idealized kernel's text with each named constant read as its printed word, so its
frame is the one proved at any float values, at the machine's words.
-/

@[expose] public section

noncomputable section

namespace Cert.Proof.Claims

open Idealize.ShloMosaic Idealize.ShloMosaic.TcCoe Idealize.SL.Sem

/-- At the machine's words a named constant is its printed word. -/
local instance namedWord : Named Bits where
  named _ _ {φ} b := Scalar.ofBits φ b

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Reference.Facts := Cert.Reference.Gen.facts
local instance : Cert.Pre_finite.Facts := Cert.Pre_finite.Gen.facts

/-- The two programs' kernel bodies are one program. -/
theorem bodies_eq : @Cert.Kernel.defs₀ Bits _ _ = @Cert.KernelIdeal.defs₀ Bits _ _ _ := by
  unfold Cert.Kernel.defs₀ Cert.KernelIdeal.defs₀
  congr 1
  funext l a
  match l, a with
  | 0, (t, s) => rfl

theorem defs_eq : @Cert.Kernel.defs Bits _ _ = @Cert.KernelIdeal.defs Bits _ _ _ :=
  congrArg (Pipeline.defs (Cert.KernelIdeal.pcfgs (F := Bits))) bodies_eq

/-- The idealized kernel's frame, at any float values. -/
theorem frame_any {F : FTy → Type} [FloatOps F] [Named F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Cert.KernelIdeal.Hand.run_out m g)

theorem frame_p : Cert.quiescent_Kernel := by
  intro m g _
  have h := frame_any (F := Bits) m g
  rw [← defs_eq] at h
  exact h

theorem frame_pi : Cert.quiescent_KernelIdeal := fun m g _ => frame_any m g
theorem frame_pi_finite : Cert.quiescent_KernelIdeal_pre_finite := fun m g _ => frame_any m g

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
theorem frame_ri_finite : Cert.quiescent_ReferenceIdeal_pre_finite := fun m g _ => frame_ri m g trivial
theorem frame_r : Cert.quiescent_Reference := fun m g _ =>
  (θ_run Cert.Reference.defs _ _).mono (fun r h => ⟨fun c => (h c).2, sem_eq_zero_of_no_sems (by decide) r.2⟩)
    (Cert.Reference.Value.run (F := Bits) m g)

/-- The named constants' table gives the scale and the mask the values claimed of them. -/
theorem preserves : Cert.preserves_Kernel_KernelIdeal :=
  ⟨IdealRules.named_const.statement Cert.KernelIdeal.κ "scale" .f32 0x3E0293EE#32 _ rfl,
   IdealRules.named_const.statement Cert.KernelIdeal.κ "mask" .f32 0xF149F2CA#32 _ rfl⟩

end Cert.Proof.Claims

end
-- ==== Proof.BlockValue.lean ====
module

public import proofs.«01_k».proof.Proof.Frame
public import Idealize.ShloMosaic.Lib.Pointwise
public import Idealize.ShloMosaic.Lib.IdealHost

/-!
# A point's output, read at one position

Each of the two row halves is a quotient: the weighted sum of the values over three key half-blocks, above the sum of
the weights. A weight is a power of two of the scaled score where the half-block's mask is open and zero elsewhere.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.WordCmp

/-- A weight: the power of two of a score where the mask is open, zero elsewhere. -/
def part (c : Prop) [Decidable c] (x : EReal) : EReal := if c then Ideal.exp2 x else 0

/-- The named factor the queries are multiplied by: one over the logarithm of two times the root of the head dimension. -/
def scaleR : EReal := ((((Real.log 2) * (Real.sqrt 128))⁻¹ : ℝ) : EReal)

/-- The scaled score of two rows of 128 features. -/
def score (q k : Fin 128 → EReal) : EReal := ∑ d : Fin 128, q d * scaleR * k d

theorem scale_named : (Named.named (F := Ideal) κ "scale" (φ := .f32) 0x3E0293EE#32 : EReal) = scaleR :=
  IdealRules.named_const.ideal_named_scalar _ _ _ _ rfl

theorem mask_named : (Named.named (F := Ideal) κ "mask" (φ := .f32) 0xF149F2CA#32 : EReal) = ⊥ :=
  IdealRules.named_const.ideal_named_scalar _ _ _ _ rfl

/-- The power of two of a selected score is a weight. -/
theorem exp2_select (c : Prop) [Decidable c] (x : EReal) :
    (FloatOps.exp2 (F := Ideal) (φ := .f32) (Scalar.select (BitVec.ofBool (decide c)) x (⊥ : EReal)) : EReal) = part c x := by
  rw [select_decide]
  unfold part
  split
  · rfl
  · exact Ideal.exp2_bot

theorem exp2_always (x : EReal) : (FloatOps.exp2 (F := Ideal) (φ := .f32) x : EReal) = part True x := by
  simp only [part, if_true]; rfl

theorem slt_and (n : ℕ) (a x : Fin 256) :
    IntOp.andi (IntOp.cmpi .slt (BitVec.ofNat 32 a.val) (BitVec.ofNat 32 x.val)) (BitVec.ofBool (decide (0 < n)))
      = BitVec.ofBool (decide (a.val < x.val ∧ 0 < n)) := by
  have ha := a.isLt; have hx := x.isLt
  rw [cmpi_slt_ofNat (by norm_num; omega) (by norm_num; omega), andi_ofBool]
  simp

theorem sgt_pos (n : ℕ) (hn : n < 4) : Scalar.cmpi .sgt (BitVec.ofNat 32 n) 0#32 = BitVec.ofBool (decide (0 < n)) := by
  rw [scalar_cmpi_eq, show (0#32 : BitVec 32) = BitVec.ofNat 32 0 from rfl, cmpi_sgt_ofNat (by norm_num; omega) (by norm_num)]

theorem sge_mask (a x : Fin 256) :
    IntOp.cmpi .sge (BitVec.ofNat 32 a.val) (BitVec.ofNat 32 x.val) = BitVec.ofBool (decide (x.val ≤ a.val)) := by
  have ha := a.isLt; have hx := x.isLt
  rw [cmpi_sge_ofNat (by norm_num; omega) (by norm_num; omega)]

/-- Row `a` of a half, from its three key half-blocks' scores and values. -/
def quot (c0 c1 c2 : Fin 256 → Prop) [DecidablePred c0] [DecidablePred c1] [DecidablePred c2] (s0 s1 s2 v0 v1 v2 : Fin 256 → EReal) : EReal :=
  Ideal.div
    (∑ x, part (c0 x) (s0 x) * v0 x + ∑ x, part (c1 x) (s1 x) * v1 x + ∑ x, part (c2 x) (s2 x) * v2 x)
    (∑ x, part (c0 x) (s0 x) + ∑ x, part (c1 x) (s1 x) + ∑ x, part (c2 x) (s2 x))

/-- Position `y` of a half-block, in the block's first or last 256 rows. -/
abbrev up (x : Fin 256) : Fin 512 := ⟨x.val, by omega⟩
abbrev dn (x : Fin 256) : Fin 512 := ⟨256 + x.val, by omega⟩

theorem outA_at (n : ℕ) (hn : n < 4) (q kp kc vp vc : FVec Ideal S1x8x512x128 .f32) (h : Fin 8) (a : Fin 256) (d : Fin 128) :
    outA (F := Ideal) (BitVec.ofNat 32 n) q kp kc vp vc (ix4 0 h a d)
      = quot (fun x => a.val < x.val ∧ 0 < n) (fun _ => 0 < n) (fun x => x.val ≤ a.val)
          (fun x => score (fun e => q (ix4 0 h (up a) e)) fun e => kp (ix4 0 h (up x) e))
          (fun x => score (fun e => q (ix4 0 h (up a) e)) fun e => kp (ix4 0 h (dn x) e))
          (fun x => score (fun e => q (ix4 0 h (up a) e)) fun e => kc (ix4 0 h (up x) e))
          (fun x => vp (ix4 0 h (up x) d)) (fun x => vp (ix4 0 h (dn x) d)) (fun x => vc (ix4 0 h (up x) d)) := by
  pointwise [outA, k0_pay1, k0_pay24, k0_pay12, k0_pay13, k0_pay14, k0_pay18, k0_pay19, k0_pay21, k0_pay22, k0_pay4, k0_pay5, k0_pay7, k0_pay8, k0_pay9, k0_pay10, k0_pay11, lo, hi]
  simp only [scale_named, mask_named, slt_and n, sgt_pos n hn, sge_mask, exp2_select]
  rfl

theorem outB_at (n : ℕ) (hn : n < 4) (q kp kc vp vc : FVec Ideal S1x8x512x128 .f32) (h : Fin 8) (a : Fin 256) (d : Fin 128) :
    outB (F := Ideal) (BitVec.ofNat 32 n) q kp kc vp vc (ix4 0 h a d)
      = quot (fun x => a.val < x.val ∧ 0 < n) (fun _ => True) (fun x => x.val ≤ a.val)
          (fun x => score (fun e => q (ix4 0 h (dn a) e)) fun e => kp (ix4 0 h (dn x) e))
          (fun x => score (fun e => q (ix4 0 h (dn a) e)) fun e => kc (ix4 0 h (up x) e))
          (fun x => score (fun e => q (ix4 0 h (dn a) e)) fun e => kc (ix4 0 h (dn x) e))
          (fun x => vp (ix4 0 h (dn x) d)) (fun x => vc (ix4 0 h (up x) d)) (fun x => vc (ix4 0 h (dn x) d)) := by
  pointwise [outB, k0_pay2, k0_pay20, k0_pay23, k0_pay15, k0_pay16, k0_pay17, k0_pay21, k0_pay22, k0_pay4, k0_pay6, k0_pay8, k0_pay9, k0_pay10, k0_pay11, lo, hi]
  simp only [scale_named, mask_named, slt_and n, sgt_pos n hn, sge_mask, exp2_select]
  simp only [exp2_always]
  rfl

end Cert.KernelIdeal.Hand

end
-- ==== Proof.ArrayValue.lean ====
module

public import proofs.«01_k».proof.Proof.BlockValue
public import Idealize.ShloMosaic.Lib.Pipeline.ValueKit

/-!
# The output array from the points' blocks

Point `t` writes the block of head group `t / 4` and row block `t % 4`; the eight blocks tile the array. Its input blocks
are the arguments' entries at the same places.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.WordCmp Idealize.ShloMosaic.Tactic
open Idealize.ShloMosaic.Pipeline (Dat)

variable (m : (ℓ : Loc nD τ sig) → Buf (Elt Ideal) ℓ)

theorem idx_val : ∀ t : Fin cfg0.N, win0_0.index t = ![0, t.val / 4, t.val % 4, 0] ∧ win0_1.index t = ![0, t.val / 4, t.val % 4, 0]
    ∧ win0_2.index t = ![0, t.val / 4, t.val % 4, 0] ∧ win0_3.index t = ![0, t.val / 4, t.val % 4, 0] ∧ t.val / 4 < 2 :=
  (by decide +kernel : ∀ t : Fin grid0.N, _)

/-- The array head and row of a block's head and row at point `t`. -/
abbrev headAt (t : Fin cfg0.N) (h : Fin 8) : Fin 16 := ⟨t.val / 4 * 8 + h.val, by have := (idx_val t).2.2.2.2; omega⟩
abbrev rowAt (t : Fin cfg0.N) (r : Fin 512) : Fin 2048 := ⟨t.val % 4 * 512 + r.val, by omega⟩

theorem qBlk_at (c : Dev nD) (t : Fin cfg0.N) (h : Fin 8) (r : Fin 512) (d : Fin 128) :
    (qBlk m c t : FVec Ideal S1x8x512x128 .f32) (ix4 0 h r d)
      = (m ((c : Thread nD τ).loc main_arg0) : FVec Ideal S1x16x2048x128 .f32) (ix4 0 (headAt t h) (rowAt t r) d) := by
  blk_ext [iblk, V, idx_val t]

theorem kBlk_at (c : Dev nD) (t : Fin cfg0.N) (h : Fin 8) (r : Fin 512) (d : Fin 128) :
    (kBlk m c t : FVec Ideal S1x8x512x128 .f32) (ix4 0 h r d)
      = (m ((c : Thread nD τ).loc main_arg1) : FVec Ideal S1x16x2048x128 .f32) (ix4 0 (headAt t h) (rowAt t r) d) := by
  blk_ext [iblk, V, idx_val t]

theorem vBlk_at (c : Dev nD) (t : Fin cfg0.N) (h : Fin 8) (r : Fin 512) (d : Fin 128) :
    (vBlk m c t : FVec Ideal S1x8x512x128 .f32) (ix4 0 h r d)
      = (m ((c : Thread nD τ).loc main_arg2) : FVec Ideal S1x16x2048x128 .f32) (ix4 0 (headAt t h) (rowAt t r) d) := by
  blk_ext [iblk, V, idx_val t]

/-- If every point's block agrees with `G` at its place, the output array is `G`. -/
theorem final_of (c : Dev nD) (G : FVec Ideal S1x16x2048x128 .f32)
    (hG : ∀ (t : Fin cfg0.N) (h : Fin 8) (r : Fin 512) (d : Fin 128),
      (outAt m c t : FVec Ideal S1x8x512x128 .f32) (ix4 0 h r d) = G (ix4 0 (headAt t h) (rowAt t r) d)) :
    (dats m 0 c).arrAt 3 cfg0.N = G := by
  refine (dats m 0 c).arrAt_eq_of_covers 3 G (by decide +kernel) fun t _ y => ?_
  blk_simp
  rw [after0_3]
  have y0 : (y 0).val < 1 := (y 0).isLt
  have y1 : (y 1).val < 8 := (y 1).isLt
  have y2 : (y 2).val < 512 := (y 2).isLt
  have y3 : (y 3).val < 128 := (y 3).isLt
  refine (congrArg (outAt m c t) ?_).trans ((hG t ⟨(y 1).val, y1⟩ ⟨(y 2).val, y2⟩ ⟨(y 3).val, y3⟩).trans (congrArg G ?_))
  · funext a
    fin_cases a
    · exact Fin.ext (by show (y 0).val = 0; omega)
    all_goals rfl
  · blk_ext [idx_val t]

end Cert.KernelIdeal.Hand

end
-- ==== Proof.RefValue.lean ====
module

public import proofs.«01_k».proof.Proof.Gen.ReferenceIdeal.Run
public import Idealize.ShloMosaic.Lib.Pointwise
public import Idealize.ShloMosaic.Lib.IdealHost
public import Idealize.ShloMosaic.Lib.WordCmp

/-!
# The reference's result, read at one position

A row of scores, minus its largest, through the exponential, over the sum of the row; then the weighted sum of the
values. A masked score is minus infinity.
-/

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.WordCmp

/-- The window's mask over query and key positions. -/
def msk : IVec S2048x2048 1 :=
  andi (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))
    (cmpi .slt (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (constantI S_ 32 512#32)))

/-- The masked scores, over any mask. -/
def scores (M : IVec S2048x2048 1) (Q K : FVec Ideal S1x16x2048x128 .f32) : FVec Ideal S1x16x2048x2048 .f32 :=
  select (broadcastInDim S1x16x2048x2048 ![0, 1, 2, 3] bcast_S1x1x2048x2048_S1x16x2048x2048_0_1_2_3 (broadcastInDim S1x1x2048x2048 ![2, 3] bcast_S2048x2048_S1x1x2048x2048_2_3 M))
    (mulf (Host.dotGeneral dot_S1x16x2048x128_S1x16x2048x128_S1x16x2048x2048_3_3_2_2_01_01 none Q K) (broadcastInDim S1x16x2048x2048 ![] bcast_S_S1x16x2048x2048 (Host.divf (constant S_ .f32 0x3F800000#32) (Host.sqrt (constant S_ .f32 0x43000000#32)))))
    (broadcastInDim S1x16x2048x2048 ![] bcast_S_S1x16x2048x2048 (id (constant S_ .f32 0xFF800000#32)))

/-- The largest score of every row. -/
def rowMax (S : FVec Ideal S1x16x2048x2048 .f32) : FVec Ideal S1x16x2048 .f32 :=
  maximumf (broadcastInDim S1x16x2048 ![] bcast_S_S1x16x2048 (constant S_ .f32 0xFF800000#32))
    (Host.reduce FloatOps.maximumf S (constant S_ .f32 0xFF800000#32) reducesTo_S1x16x2048x2048_S1x16x2048_d3 h_S_)

/-- The exponentials of the scores less the row's largest. -/
def exps (S : FVec Ideal S1x16x2048x2048 .f32) (M : FVec Ideal S1x16x2048 .f32) : FVec Ideal S1x16x2048x2048 .f32 :=
  Host.exp (subf S (broadcastInDim S1x16x2048x2048 ![0, 1, 2, 3] bcast_S1x16x2048x1_S1x16x2048x2048_0_1_2_3 (broadcastInDim S1x16x2048x1 ![0, 1, 2] bcast_S1x16x2048_S1x16x2048x1_0_1_2 M)))

/-- The exponentials over their row's sum, times the values. -/
def weighted (E : FVec Ideal S1x16x2048x2048 .f32) (V : FVec Ideal S1x16x2048x128 .f32) : FVec Ideal S1x16x2048x128 .f32 :=
  Host.dotGeneral dot_S1x16x2048x2048_S1x16x2048x128_S1x16x2048x128_3_2_2_3_01_01 none
    (Host.divf E (broadcastInDim S1x16x2048x2048 ![0, 1, 2, 3] bcast_S1x16x2048x1_S1x16x2048x2048_0_1_2_3 (broadcastInDim S1x16x2048x1 ![0, 1, 2] bcast_S1x16x2048_S1x16x2048x1_0_1_2
      (Host.reduceAdd E (constant S_ .f32 0x00000000#32) reducesTo_S1x16x2048x2048_S1x16x2048_d3 h_S_)))) V

theorem res_eq (m : (ℓ : Loc nD τ sig) → Buf (Elt Ideal) ℓ) (c : Dev nD) :
    Cert.ReferenceIdeal.Value.res_main_v31 (F := Ideal) m c
      = weighted (exps (scores msk (m ((c.tc : Thread nD τ).loc main_arg0)) (m ((c.tc : Thread nD τ).loc main_arg1)))
          (rowMax (scores msk (m ((c.tc : Thread nD τ).loc main_arg0)) (m ((c.tc : Thread nD τ).loc main_arg1)))))
        (m ((c.tc : Thread nD τ).loc main_arg2)) := rfl

theorem msk_at (r k : Fin 2048) : msk (ix2 r k) = BitVec.ofBool (decide (k.val ≤ r.val ∧ r.val < k.val + 512)) := by
  have hr := r.isLt; have hk := k.isLt
  pointwise [msk]
  rw [cmpi_sle_ofNat (by norm_num; omega) (by norm_num; omega)]
  by_cases hle : k.val ≤ r.val
  · rw [show IntOp.subi (BitVec.ofNat 32 r.val) (BitVec.ofNat 32 k.val) = BitVec.ofNat 32 (r.val - k.val) from by
        show BitVec.ofNat 32 r.val - BitVec.ofNat 32 k.val = _
        apply BitVec.eq_of_toNat_eq
        simp only [BitVec.toNat_sub, BitVec.toNat_ofNat]
        omega,
      show (512#32 : BitVec 32) = BitVec.ofNat 32 512 from rfl, cmpi_slt_ofNat (by norm_num; omega) (by norm_num), andi_ofBool]
    congr 1
    have e : (r.val - k.val < 512) ↔ (r.val < k.val + 512) := by omega
    simp [hle, e]
  · simp only [hle, false_and, decide_false]
    exact BitVec.zero_and

/-- One over the root of the head dimension. -/
def invRoot : ℝ := (Real.sqrt 128)⁻¹

theorem invRoot_eq : Ideal.div 1 (Ideal.sqrt (Ideal.ofBits FTy.f32 0x43000000#32)) = ((invRoot : ℝ) : EReal) := by
  rw [show Ideal.ofBits FTy.f32 0x43000000#32 = ((128 : ℝ) : EReal) from by
      simp [Ideal.ofBits, Ideal.ieee, -EReal.coe_mul]; norm_num, Ideal.sqrt_coe, if_neg (by norm_num),
    Ideal.div_coe (Real.sqrt_ne_zero'.mpr (by norm_num)), one_mul, one_div]
  rfl

theorem neg_inf : Ideal.ofBits FTy.f32 0xFF800000#32 = ⊥ := by
  simp [Ideal.ofBits, Ideal.ieee]

theorem scores_at (M : IVec S2048x2048 1) (Q K : FVec Ideal S1x16x2048x128 .f32) (h : Fin 16) (r k : Fin 2048) :
    scores M Q K (ix4 0 h r k) = Scalar.select (M (ix2 r k)) ((∑ d : Fin 128, Q (ix4 0 h r d) * K (ix4 0 h k d)) * (invRoot : EReal)) (⊥ : EReal) := by
  pointwise [scores]
  rw [invRoot_eq]
  congr 1

/-- The fold of the largest over the last axis, at any sizes. -/
theorem reduce_last {n0 n1 n2 n3 : ℕ} (S : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (a : Fin n0) (b : Fin n1) (c : Fin n2) :
    Host.reduce (FloatOps.maximumf (F := Ideal) (φ := .f32)) S init h hu (ix3 a b c)
      = Finset.univ.fold max (init (Shape.Idx.first hu)) (fun k : Fin n3 => S (ix4 a b c k)) := by
  pointwise

theorem maximumf_at {s : Shape} (A B : FVec Ideal s .f32) (i : s.Idx) : maximumf A B i = max (A i) (B i) := rfl

theorem rowMax_at (S : FVec Ideal S1x16x2048x2048 .f32) (h : Fin 16) (r : Fin 2048) :
    rowMax S (ix3 0 h r) = Finset.univ.fold max (⊥ : EReal) (fun k : Fin 2048 => S (ix4 0 h r k)) := by
  have e1 := reduce_last (n0 := 1) (n1 := 16) (n2 := 2048) (n3 := 2048) S (constant S_ .f32 0xFF800000#32) reducesTo_S1x16x2048x2048_S1x16x2048_d3 h_S_ 0 h r
  unfold rowMax
  rw [maximumf_at, e1]
  show max (Ideal.ofBits FTy.f32 0xFF800000#32) (Finset.univ.fold max (Ideal.ofBits FTy.f32 0xFF800000#32) _) = _
  rw [neg_inf]
  exact max_eq_right bot_le

theorem exps_at (S : FVec Ideal S1x16x2048x2048 .f32) (M : FVec Ideal S1x16x2048 .f32) (h : Fin 16) (r k : Fin 2048) :
    exps S M (ix4 0 h r k) = Ideal.exp (S (ix4 0 h r k) - M (ix3 0 h r)) := by
  pointwise [exps]

theorem weighted_at (E : FVec Ideal S1x16x2048x2048 .f32) (V : FVec Ideal S1x16x2048x128 .f32) (h : Fin 16) (r : Fin 2048) (d : Fin 128) :
    weighted E V (ix4 0 h r d)
      = ∑ k : Fin 2048, Ideal.div (E (ix4 0 h r k)) (∑ j : Fin 2048, E (ix4 0 h r j)) * V (ix4 0 h k d) := by
  pointwise [weighted]

end Cert.ReferenceIdeal.Hand

end
-- ==== Proof.Softmax.lean ====
module

public import proofs.«01_k».proof.Proof.BlockValue
public import Idealize.ShloMosaic.Lib.Pointwise
public import Idealize.ShloMosaic.Lib.IdealHost

/-!
# The arithmetic of one row

Both programs' row is a sum of weights times values over the sum of the weights. The reference's weights carry a factor
`exp (- largest score)` that cancels; the kernel's are powers of two of a score scaled by one over `ln 2`, which are the
same exponentials; and the kernel sums only the three half-blocks of 256 keys that meet the window.
-/

@[expose] public section

set_option maxRecDepth 16384

noncomputable section

namespace Cert.Hand.Softmax

open Idealize.ShloMosaic Cert.KernelIdeal.Hand

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes through a sum of any extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

theorem weight_mul (p v : EReal) (x : ℝ) : p * v * (x : EReal) = p * (x : EReal) * v := by
  rw [mul_assoc, mul_comm v, ← mul_assoc]

/-- The kernel's quotient with real weights: each value times its weight's share. -/
theorem quot_real (c0 c1 c2 : Fin 256 → Prop) [DecidablePred c0] [DecidablePred c1] [DecidablePred c2] (s0 s1 s2 v0 v1 v2 : Fin 256 → EReal)
    (p0 p1 p2 : Fin 256 → ℝ) (h0 : ∀ x, part (c0 x) (s0 x) = (p0 x : EReal)) (h1 : ∀ x, part (c1 x) (s1 x) = (p1 x : EReal))
    (h2 : ∀ x, part (c2 x) (s2 x) = (p2 x : EReal)) (hL : 0 < ∑ x, p0 x + ∑ x, p1 x + ∑ x, p2 x) :
    quot c0 c1 c2 s0 s1 s2 v0 v1 v2
      = ∑ x, ((p0 x * (1 / (∑ x, p0 x + ∑ x, p1 x + ∑ x, p2 x)) : ℝ) : EReal) * v0 x
        + ∑ x, ((p1 x * (1 / (∑ x, p0 x + ∑ x, p1 x + ∑ x, p2 x)) : ℝ) : EReal) * v1 x
        + ∑ x, ((p2 x * (1 / (∑ x, p0 x + ∑ x, p1 x + ∑ x, p2 x)) : ℝ) : EReal) * v2 x := by
  unfold quot
  simp only [h0, h1, h2]
  rw [← coe_sum, ← coe_sum, ← coe_sum, ← EReal.coe_add, ← EReal.coe_add, Ideal.div_coe hL.ne']
  have hc : (0 : ℝ) ≤ 1 / (∑ x, p0 x + ∑ x, p1 x + ∑ x, p2 x) := by positivity
  generalize (1 / (∑ x, p0 x + ∑ x, p1 x + ∑ x, p2 x) : ℝ) = r at hc ⊢
  rw [EReal.right_distrib_of_nonneg_of_ne_top (by exact_mod_cast hc) (EReal.coe_ne_top r),
    EReal.right_distrib_of_nonneg_of_ne_top (by exact_mod_cast hc) (EReal.coe_ne_top r),
    sum_mul_coe _ _ _ hc, sum_mul_coe _ _ _ hc, sum_mul_coe _ _ _ hc]
  simp only [weight_mul, EReal.coe_mul]

/-- The largest of a row of which one entry is real and none is plus infinity is real. -/
theorem max_real {n : ℕ} (f : Fin n → EReal) (i : Fin n) (x : ℝ) (hi : f i = (x : EReal)) (h : ∀ k, f k ≠ ⊤) :
    ∃ μ : ℝ, Finset.univ.fold max (⊥ : EReal) f = (μ : EReal) := by
  have hlt : Finset.univ.fold max (⊥ : EReal) f < ⊤ :=
    (Finset.fold_max_lt _).mpr ⟨bot_lt_top, fun k _ => lt_top_iff_ne_top.mpr (h k)⟩
  have hge : (x : EReal) ≤ Finset.univ.fold max (⊥ : EReal) f :=
    (Finset.le_fold_max _).mpr (Or.inr ⟨i, Finset.mem_univ _, hi.ge⟩)
  refine ⟨(Finset.univ.fold max (⊥ : EReal) f).toReal, (EReal.coe_toReal hlt.ne ?_).symm⟩
  exact fun e => absurd (e ▸ hge) (not_le.mpr (EReal.bot_lt_coe x))

/-- The reference's row: the factor of the largest score cancels. -/
theorem ref_row {n : ℕ} (c : Fin n → Prop) [DecidablePred c] (y : Fin n → ℝ) (v : Fin n → EReal) (i : Fin n) (hi : c i) :
    (∑ k, Ideal.div (Ideal.exp ((if c k then (y k : EReal) else ⊥) - Finset.univ.fold max (⊥ : EReal) fun k => if c k then (y k : EReal) else ⊥))
        (∑ j, Ideal.exp ((if c j then (y j : EReal) else ⊥) - Finset.univ.fold max (⊥ : EReal) fun k => if c k then (y k : EReal) else ⊥)) * v k)
      = ∑ k, (((if c k then Real.exp (y k) else 0) * (1 / ∑ j, if c j then Real.exp (y j) else 0) : ℝ) : EReal) * v k := by
  obtain ⟨μ, hμ⟩ := max_real (fun k => if c k then (y k : EReal) else ⊥) i (y i) (if_pos hi)
    (fun k => by split; exacts [EReal.coe_ne_top _, bot_ne_top])
  rw [hμ]
  have he : ∀ k, Ideal.exp ((if c k then (y k : EReal) else ⊥) - (μ : EReal)) = (((if c k then Real.exp (y k) else 0) * Real.exp (-μ) : ℝ) : EReal) := by
    intro k
    split
    · rw [← EReal.coe_sub, Ideal.exp_coe, sub_eq_add_neg, Real.exp_add]
    · rw [EReal.bot_sub, Ideal.exp_bot, zero_mul]; rfl
  simp only [he]
  rw [← coe_sum, ← Finset.sum_mul]
  have hs : 0 < ∑ j, (if c j then Real.exp (y j) else 0) :=
    Finset.sum_pos' (fun j _ => by split <;> positivity) ⟨i, Finset.mem_univ _, by rw [if_pos hi]; positivity⟩
  have hx := Real.exp_pos (-μ)
  refine Finset.sum_congr rfl fun k _ => ?_
  rw [Ideal.div_coe (by positivity), ← EReal.coe_mul]
  congr 2
  field_simp

/-- A sum over the 2048 keys of something that is zero off the three half-blocks `b - 2`, `b - 1`, `b`. -/
theorem window_sum {M : Type} [AddCommMonoid M] (b : ℕ) (hb : b < 8) (f : Fin 2048 → M) (g0 g1 g2 : Fin 256 → M)
    (hz : ∀ k : Fin 2048, ¬ (k.val / 256 ≤ b ∧ b ≤ k.val / 256 + 2) → f k = 0)
    (h0 : ∀ (x : Fin 256) (h : 2 ≤ b), g0 x = f ⟨256 * (b - 2) + x.val, by omega⟩) (h0' : b < 2 → ∀ x, g0 x = 0)
    (h1 : ∀ (x : Fin 256) (h : 1 ≤ b), g1 x = f ⟨256 * (b - 1) + x.val, by omega⟩) (h1' : b < 1 → ∀ x, g1 x = 0)
    (h2 : ∀ x : Fin 256, g2 x = f ⟨256 * b + x.val, by omega⟩) :
    ∑ k, f k = ∑ x, g0 x + ∑ x, g1 x + ∑ x, g2 x := by
  let S : ℕ → M := fun c => if h : c < 8 then ∑ x : Fin 256, f ⟨256 * c + x.val, by omega⟩ else 0
  have hS : ∀ c, ¬ (c ≤ b ∧ b ≤ c + 2) → S c = 0 := by
    intro c hc
    dsimp only [S]
    split
    · exact Finset.sum_eq_zero fun x _ => hz _ (by have := x.isLt; dsimp only; omega)
    · rfl
  have e : ∑ k, f k = ∑ c ∈ Finset.range 8, S c := by
    rw [Finset.sum_range, Fin.sum_univ_tiles 8 256 rfl f]
    refine Finset.sum_congr rfl fun c _ => ?_
    dsimp only [S]
    rw [dif_pos c.isLt]
    refine Finset.sum_congr rfl fun x _ => congrArg f (Fin.ext ?_)
    dsimp only; omega
  have e2 : ∑ x, g2 x = S b := by
    dsimp only [S]; rw [dif_pos hb]; exact Finset.sum_congr rfl fun x _ => h2 x
  have e1 : ∑ x, g1 x = if 1 ≤ b then S (b - 1) else 0 := by
    split
    · next h => dsimp only [S]; rw [dif_pos (by omega)]; exact Finset.sum_congr rfl fun x _ => h1 x h
    · next h => exact Finset.sum_eq_zero fun x _ => h1' (by omega) x
  have e0 : ∑ x, g0 x = if 2 ≤ b then S (b - 2) else 0 := by
    split
    · next h => dsimp only [S]; rw [dif_pos (by omega)]; exact Finset.sum_congr rfl fun x _ => h0 x h
    · next h => exact Finset.sum_eq_zero fun x _ => h0' (by omega) x
  rw [e, e0, e1, e2]
  clear e e0 e1 e2 h0 h1 h2 h0' h1' hz
  clear_value S
  interval_cases b <;> simp [Finset.sum_range_succ, hS]

/-- A power of two of a score over `ln 2` is the exponential of the score. -/
theorem two_pow (D : ℝ) : Ideal.exp2 ((D * ((Real.log 2) * (Real.sqrt 128))⁻¹ : ℝ) : EReal) = ((Real.exp (D * (Real.sqrt 128)⁻¹) : ℝ) : EReal) := by
  rw [Ideal.exp2_coe]
  congr 1
  show (2 : ℝ) ^ (D * ((Real.log 2) * (Real.sqrt 128))⁻¹) = _
  rw [Real.rpow_def_of_pos (by norm_num)]
  congr 1
  have h2 : Real.log 2 ≠ 0 := (Real.log_pos (by norm_num)).ne'
  rw [mul_inv, ← mul_assoc, ← mul_assoc, mul_comm (Real.log 2) D, mul_assoc D, mul_inv_cancel₀ h2, mul_one]

/-- The kernel's row: the three half-blocks it sums are the whole row's sum. -/
theorem kernel_row (b : ℕ) (hb : b < 8) (W : Fin 2048 → ℝ) (v : Fin 2048 → EReal)
    (hz : ∀ k : Fin 2048, ¬ (k.val / 256 ≤ b ∧ b ≤ k.val / 256 + 2) → W k = 0) (hW : 0 < ∑ k, W k)
    (c0 c1 c2 : Fin 256 → Prop) [DecidablePred c0] [DecidablePred c1] [DecidablePred c2] (s0 s1 s2 v0 v1 v2 : Fin 256 → EReal)
    (p0 p1 p2 : Fin 256 → ℝ) (e0 : ∀ x, part (c0 x) (s0 x) = (p0 x : EReal)) (e1 : ∀ x, part (c1 x) (s1 x) = (p1 x : EReal))
    (e2 : ∀ x, part (c2 x) (s2 x) = (p2 x : EReal))
    (h0 : ∀ (x : Fin 256) (h : 2 ≤ b), p0 x = W ⟨256 * (b - 2) + x.val, by omega⟩ ∧ v0 x = v ⟨256 * (b - 2) + x.val, by omega⟩)
    (h0' : b < 2 → ∀ x, p0 x = 0)
    (h1 : ∀ (x : Fin 256) (h : 1 ≤ b), p1 x = W ⟨256 * (b - 1) + x.val, by omega⟩ ∧ v1 x = v ⟨256 * (b - 1) + x.val, by omega⟩)
    (h1' : b < 1 → ∀ x, p1 x = 0)
    (h2 : ∀ x : Fin 256, p2 x = W ⟨256 * b + x.val, by omega⟩ ∧ v2 x = v ⟨256 * b + x.val, by omega⟩) :
    quot c0 c1 c2 s0 s1 s2 v0 v1 v2 = ∑ k, ((W k * (1 / ∑ j, W j) : ℝ) : EReal) * v k := by
  have hL : ∑ k, W k = ∑ x, p0 x + ∑ x, p1 x + ∑ x, p2 x :=
    window_sum b hb W p0 p1 p2 hz (fun x h => (h0 x h).1) h0' (fun x h => (h1 x h).1) h1' (fun x => (h2 x).1)
  rw [quot_real c0 c1 c2 s0 s1 s2 v0 v1 v2 p0 p1 p2 e0 e1 e2 (hL ▸ hW), ← hL]
  refine (window_sum b hb (fun k => ((W k * (1 / ∑ j, W j) : ℝ) : EReal) * v k) _ _ _ (fun k hk => ?_) (fun x h => ?_) (fun h x => ?_)
    (fun x h => ?_) (fun h x => ?_) (fun x => ?_)).symm
  · rw [hz k hk, zero_mul, EReal.coe_zero, zero_mul]
  · rw [(h0 x h).1, (h0 x h).2]
  · rw [h0' h x, zero_mul, EReal.coe_zero, zero_mul]
  · rw [(h1 x h).1, (h1 x h).2]
  · rw [h1' h x, zero_mul, EReal.coe_zero, zero_mul]
  · rw [(h2 x).1, (h2 x).2]

/-- The product of two rows of real features. -/
def dotv (a b : Fin 128 → ℝ) : ℝ := ∑ d, a d * b d

theorem score_real (a b : Fin 128 → ℝ) :
    score (fun d => (a d : EReal)) (fun d => (b d : EReal)) = ((dotv a b * ((Real.log 2) * (Real.sqrt 128))⁻¹ : ℝ) : EReal) := by
  unfold score scaleR dotv
  rw [Finset.sum_mul, coe_sum]
  refine Finset.sum_congr rfl fun d _ => ?_
  rw [← EReal.coe_mul, ← EReal.coe_mul]
  congr 1
  ring

/-- A weight of the kernel, in real numbers. -/
theorem part_real (c : Prop) [Decidable c] (a b : Fin 128 → ℝ) :
    part c (score (fun d => (a d : EReal)) (fun d => (b d : EReal))) = ((if c then Real.exp (dotv a b * (Real.sqrt 128)⁻¹) else 0 : ℝ) : EReal) := by
  unfold part
  split
  · rw [score_real, two_pow]
  · rfl

end Cert.Hand.Softmax

end
-- ==== Proof.Value.lean ====
module

public import proofs.«01_k».proof.Proof.ArrayValue
public import proofs.«01_k».proof.Proof.RefValue
public import proofs.«01_k».proof.Proof.Softmax

/-!
# Both results are one function of the arguments

With every query and every key a real number, the kernel's output array and the reference's result are both `attn`:
in every row the exponentials of the scaled scores inside the window, each over their sum, times the values.
-/

@[expose] public section

set_option maxRecDepth 16384

noncomputable section

namespace Cert.Hand.Value

open Idealize.ShloMosaic Idealize.ShloMosaic.TcCoe Idealize.ShloMosaic.WordCmp
open Cert.Hand.Softmax
open Cert.KernelIdeal (S1x16x2048x128 S1x8x512x128 main_arg0 main_arg1 main_arg2 cfg0)
open Cert.KernelIdeal.Hand

/-- Key `k` is in the window of query `r`. -/
abbrev open_ (r k : Fin 2048) : Prop := k.val ≤ r.val ∧ r.val < k.val + 512

/-- Row `r` of head `h`. -/
abbrev row (q : S1x16x2048x128.Idx → ℝ) (h : Fin 16) (r : Fin 2048) : Fin 128 → ℝ := fun d => q (ix4 0 h r d)

/-- The weight of key `k` for query `r` of head `h`. -/
def weight (q k : S1x16x2048x128.Idx → ℝ) (h : Fin 16) (r j : Fin 2048) : ℝ :=
  if open_ r j then Real.exp (dotv (row q h r) (row k h j) * (Real.sqrt 128)⁻¹) else 0

/-- The attention of real queries and keys over any values. -/
def attn (q k : S1x16x2048x128.Idx → ℝ) (v : FVec Ideal S1x16x2048x128 .f32) : FVec Ideal S1x16x2048x128 .f32 := fun i =>
  ∑ j : Fin 2048, ((weight q k (i 1) (i 2) j * (1 / ∑ l, weight q k (i 1) (i 2) l) : ℝ) : EReal) * v (ix4 0 (i 1) j (i 3))

theorem weight_sum_pos (q k : S1x16x2048x128.Idx → ℝ) (h : Fin 16) (r : Fin 2048) : 0 < ∑ j, weight q k h r j :=
  Finset.sum_pos' (fun j _ => by unfold weight; split <;> positivity)
    ⟨r, Finset.mem_univ _, by unfold weight; rw [if_pos (by constructor <;> omega)]; positivity⟩

theorem weight_off (q k : S1x16x2048x128.Idx → ℝ) (h : Fin 16) (r : Fin 2048) (b : ℕ) (hb : r.val / 256 = b) (j : Fin 2048)
    (hj : ¬ (j.val / 256 ≤ b ∧ b ≤ j.val / 256 + 2)) : weight q k h r j = 0 := by
  unfold weight
  rw [if_neg]
  rintro ⟨h1, h2⟩
  apply hj
  omega

theorem weight_of (q k : S1x16x2048x128.Idx → ℝ) (h h' : Fin 16) (r j j' : Fin 2048) (c : Prop) [Decidable c] (hc : c ↔ open_ r j)
    (hh : h'.val = h.val) (hj : j'.val = j.val) :
    (if c then Real.exp (dotv (row q h r) (row k h' j') * (Real.sqrt 128)⁻¹) else 0) = weight q k h r j := by
  obtain rfl := Fin.ext hh
  obtain rfl := Fin.ext hj
  unfold weight
  exact if_congr hc rfl rfl

/-! ## The kernel -/

section Kernel

variable (m : (ℓ : Loc Cert.KernelIdeal.nD Cert.KernelIdeal.τ Cert.KernelIdeal.sig) → Buf (Elt Ideal) ℓ) (c : Dev Cert.KernelIdeal.nD)
  (q k : S1x16x2048x128.Idx → ℝ) (v : FVec Ideal S1x16x2048x128 .f32)

theorem prev_facts (t : Fin cfg0.N) (h0 : 0 < t.val % 4) (h : Fin 8) (r : Fin 512) :
    (headAt (prevPt t) h).val = (headAt t h).val ∧ (rowAt (prevPt t) r).val = (t.val % 4 - 1) * 512 + r.val := by
  have e : (prevPt t).val = t.val - 1 := rfl
  constructor
  · show (prevPt t).val / 4 * 8 + h.val = t.val / 4 * 8 + h.val; rw [e]; omega
  · show (prevPt t).val % 4 * 512 + r.val = _; rw [e]; omega

theorem point_eq (hq : (m ((c : Thread Cert.KernelIdeal.nD Cert.KernelIdeal.τ).loc main_arg0) : FVec Ideal S1x16x2048x128 .f32) = fun i => (q i : EReal))
    (hk : (m ((c : Thread Cert.KernelIdeal.nD Cert.KernelIdeal.τ).loc main_arg1) : FVec Ideal S1x16x2048x128 .f32) = fun i => (k i : EReal))
    (hv : (m ((c : Thread Cert.KernelIdeal.nD Cert.KernelIdeal.τ).loc main_arg2) : FVec Ideal S1x16x2048x128 .f32) = v)
    (t : Fin cfg0.N) (h : Fin 8) (r : Fin 512) (d : Fin 128) :
    (outAt m c t : FVec Ideal S1x8x512x128 .f32) (ix4 0 h r d) = attn q k v (ix4 0 (headAt t h) (rowAt t r) d) := by
  have hn : t.val % 4 < 4 := Nat.mod_lt _ (by norm_num)
  have ht := (idx_val t).2.2.2.2
  have rq : ∀ s h r, (fun d => (qBlk m c s : FVec Ideal S1x8x512x128 .f32) (ix4 0 h r d)) = fun d => ((row q (headAt s h) (rowAt s r) d : ℝ) : EReal) :=
    fun s h r => funext fun d => (qBlk_at m c s h r d).trans (congrFun hq _)
  have rk : ∀ s h r, (fun d => (kBlk m c s : FVec Ideal S1x8x512x128 .f32) (ix4 0 h r d)) = fun d => ((row k (headAt s h) (rowAt s r) d : ℝ) : EReal) :=
    fun s h r => funext fun d => (kBlk_at m c s h r d).trans (congrFun hk _)
  have rv : ∀ s h r d, (vBlk m c s : FVec Ideal S1x8x512x128 .f32) (ix4 0 h r d) = v (ix4 0 (headAt s h) (rowAt s r) d) :=
    fun s h r d => (vBlk_at m c s h r d).trans (congrFun hv _)
  have rp : ∀ h r d, 0 < t.val % 4 → (vPrevBlk m c t : FVec Ideal S1x8x512x128 .f32) (ix4 0 h r d) = v (ix4 0 (headAt (prevPt t) h) (rowAt (prevPt t) r) d) := by
    intro h r d h0
    unfold vPrevBlk
    rw [if_neg (by omega)]
    exact rv _ _ _ _
  have vc : ∀ (h h' : Fin 16) (r r' : Fin 2048), h.val = h'.val → r.val = r'.val → v (ix4 0 h r d) = v (ix4 0 h' r' d) := by
    intro h h' r r' e1 e2; rw [Fin.ext e1, Fin.ext e2]
  unfold outAt outBlk
  by_cases hr : r.val < 256
  · have er : r = up ⟨r.val, hr⟩ := rfl
    refine (dif_pos (show ((ix4 0 h r d : S1x8x512x128.Idx) 2).val < 256 from hr)).trans ?_
    refine (outA_at (t.val % 4) hn _ _ _ _ _ h ⟨r.val, hr⟩ d).trans ?_
    simp only [rq, rk]
    refine kernel_row (2 * (t.val % 4)) (by omega) (weight q k (headAt t h) (rowAt t r)) (fun j => v (ix4 0 (headAt t h) j d))
      (fun j hj => weight_off q k _ _ _ (by show (t.val % 4 * 512 + r.val) / 256 = _; omega) j hj) (weight_sum_pos _ _ _ _)
      _ _ _ _ _ _ _ _ _ _ _ _ (fun x => part_real _ _ _) (fun x => part_real _ _ _) (fun x => part_real _ _ _)
      (fun x hx => ?_) (fun hx x => ?_) (fun x hx => ?_) (fun hx x => ?_) (fun x => ?_)
    · obtain ⟨f1, f2⟩ := prev_facts t (by omega) h (up x)
      have f3 : (rowAt (prevPt t) (up x)).val = (t.val % 4 - 1) * 512 + x.val := f2
      refine ⟨weight_of q k _ _ _ _ _ _ ?_ f1 ?_, (rp h (up x) d (by omega)).trans (vc _ _ _ _ f1 ?_)⟩
      · dsimp only [open_, rowAt]; have := x.isLt; omega
      all_goals exact f3.trans (by dsimp only; omega)
    · exact if_neg (by omega)
    · obtain ⟨f1, f2⟩ := prev_facts t (by omega) h (dn x)
      have f3 : (rowAt (prevPt t) (dn x)).val = (t.val % 4 - 1) * 512 + (256 + x.val) := f2
      refine ⟨weight_of q k _ _ _ _ _ _ ?_ f1 ?_, (rp h (dn x) d (by omega)).trans (vc _ _ _ _ f1 ?_)⟩
      · dsimp only [open_, rowAt]; have := x.isLt; omega
      all_goals exact f3.trans (by dsimp only; omega)
    · exact if_neg (by omega)
    · refine ⟨weight_of q k _ _ _ _ _ _ ?_ rfl ?_, (rv t h (up x) d).trans (vc _ _ _ _ rfl ?_)⟩
      · dsimp only [open_, rowAt]; have := x.isLt; omega
      all_goals dsimp only [rowAt]; omega
  · obtain ⟨a, rfl⟩ : ∃ a : Fin 256, r = dn a := ⟨⟨r.val - 256, by omega⟩, Fin.ext (by show r.val = 256 + (r.val - 256); omega)⟩
    refine (dif_neg (show ¬ ((ix4 0 h (dn a) d : S1x8x512x128.Idx) 2).val < 256 from hr)).trans ?_
    rw [show (⟨((ix4 0 h (dn a) d : S1x8x512x128.Idx) 2).val - 256, by have := a.isLt; show 256 + a.val - 256 < 256; omega⟩ : Fin 256) = a from
      Fin.ext (by show 256 + a.val - 256 = a.val; omega)]
    refine (outB_at (t.val % 4) hn _ _ _ _ _ h a d).trans ?_
    simp only [rq, rk]
    refine kernel_row (2 * (t.val % 4) + 1) (by omega) (weight q k (headAt t h) (rowAt t (dn a))) (fun j => v (ix4 0 (headAt t h) j d))
      (fun j hj => weight_off q k _ _ _ (by show (t.val % 4 * 512 + (256 + a.val)) / 256 = _; omega) j hj) (weight_sum_pos _ _ _ _)
      _ _ _ _ _ _ _ _ _ _ _ _ (fun x => part_real _ _ _) (fun x => part_real _ _ _) (fun x => part_real _ _ _)
      (fun x hx => ?_) (fun hx x => ?_) (fun x hx => ?_) (fun hx x => ?_) (fun x => ?_)
    · obtain ⟨f1, f2⟩ := prev_facts t (by omega) h (dn x)
      have f3 : (rowAt (prevPt t) (dn x)).val = (t.val % 4 - 1) * 512 + (256 + x.val) := f2
      refine ⟨weight_of q k _ _ _ _ _ _ ?_ f1 ?_, (rp h (dn x) d (by omega)).trans (vc _ _ _ _ f1 ?_)⟩
      · dsimp only [open_, rowAt]; have := x.isLt; omega
      all_goals exact f3.trans (by dsimp only; omega)
    · exact if_neg (by omega)
    · refine ⟨weight_of q k _ _ _ _ _ _ ?_ rfl ?_, (rv t h (up x) d).trans (vc _ _ _ _ rfl ?_)⟩
      · exact iff_of_true trivial (by dsimp only [open_, rowAt]; have := x.isLt; constructor <;> omega)
      all_goals dsimp only [rowAt]; omega
    · exact absurd hx (by omega)
    · refine ⟨weight_of q k _ _ _ _ _ _ ?_ rfl ?_, (rv t h (dn x) d).trans (vc _ _ _ _ rfl ?_)⟩
      · dsimp only [open_, rowAt]; have := x.isLt; omega
      all_goals dsimp only [rowAt]; omega

/-- The kernel's output array. -/
theorem kernel_value (hq : (m ((c : Thread Cert.KernelIdeal.nD Cert.KernelIdeal.τ).loc main_arg0) : FVec Ideal S1x16x2048x128 .f32) = fun i => (q i : EReal))
    (hk : (m ((c : Thread Cert.KernelIdeal.nD Cert.KernelIdeal.τ).loc main_arg1) : FVec Ideal S1x16x2048x128 .f32) = fun i => (k i : EReal))
    (hv : (m ((c : Thread Cert.KernelIdeal.nD Cert.KernelIdeal.τ).loc main_arg2) : FVec Ideal S1x16x2048x128 .f32) = v) :
    (dats m 0 c).arrAt 3 cfg0.N = attn q k v :=
  final_of m c _ (point_eq m c q k v hq hk hv)

end Kernel

/-! ## The reference -/

section Ref

open Cert.ReferenceIdeal.Hand

theorem scores_real (q k : S1x16x2048x128.Idx → ℝ) (h : Fin 16) (r j : Fin 2048) :
    scores msk (fun i => (q i : EReal)) (fun i => (k i : EReal)) (ix4 0 h r j)
      = if open_ r j then ((dotv (row q h r) (row k h j) * (Real.sqrt 128)⁻¹ : ℝ) : EReal) else ⊥ := by
  rw [scores_at, msk_at, select_decide, EReal.coe_mul]
  refine if_congr Iff.rfl (congrArg (· * ((invRoot : ℝ) : EReal)) ?_) rfl
  unfold dotv
  rw [coe_sum]
  exact Finset.sum_congr rfl fun d _ => (EReal.coe_mul _ _).symm

theorem attn_at (q k : S1x16x2048x128.Idx → ℝ) (v : FVec Ideal S1x16x2048x128 .f32) (h : Fin 16) (r : Fin 2048) (d : Fin 128) :
    attn q k v (ix4 0 h r d) = ∑ j : Fin 2048, ((weight q k h r j * (1 / ∑ l, weight q k h r l) : ℝ) : EReal) * v (ix4 0 h j d) := rfl

theorem ref_at (q k : S1x16x2048x128.Idx → ℝ) (v : FVec Ideal S1x16x2048x128 .f32) (h : Fin 16) (r : Fin 2048) (d : Fin 128) :
    weighted (exps (scores msk (fun i => (q i : EReal)) (fun i => (k i : EReal))) (rowMax (scores msk (fun i => (q i : EReal)) (fun i => (k i : EReal))))) v (ix4 0 h r d)
      = attn q k v (ix4 0 h r d) := by
  rw [weighted_at, attn_at]
  simp only [exps_at, rowMax_at, scores_real]
  exact ref_row (fun j => open_ r j) (fun j => dotv (row q h r) (row k h j) * (Real.sqrt 128)⁻¹) (fun j => v (ix4 0 h j d)) r (by constructor <;> omega)

/-- The reference's result, over real queries and keys. -/
theorem ref_value (q k : S1x16x2048x128.Idx → ℝ) (v : FVec Ideal S1x16x2048x128 .f32) :
    weighted (exps (scores msk (fun i => (q i : EReal)) (fun i => (k i : EReal))) (rowMax (scores msk (fun i => (q i : EReal)) (fun i => (k i : EReal))))) v
      = attn q k v := by
  funext i
  have e : i = ix4 0 (i 1) (i 2) (i 3) := by
    funext a
    fin_cases a
    · exact Fin.ext (by have h0 : (i 0).val < 1 := (i 0).isLt; show (i 0).val = 0; omega)
    all_goals rfl
  exact (congrArg _ e).trans ((ref_at q k v (i 1) (i 2) (i 3)).trans (congrArg _ e.symm))

end Ref

end Cert.Hand.Value

end
-- ==== Proof.Precond.lean ====
module

public import proofs.«01_k».proof.Proof.Gen.Pre_finite
public import Idealize.ShloMosaic.PureOps.Ideal
public import Idealize.ShloMosaic.Lib.ReduceAll
public import Idealize.ShloMosaic.Lib.WordCmp

/-!
# The precondition read back

`finite` says that every query and every key is below plus infinity in absolute value: each is then a real number.
-/

@[expose] public section

set_option maxRecDepth 16384

noncomputable section

namespace Cert.Hand.Precond

open Idealize.ShloMosaic Idealize.ShloMosaic.WordCmp
open Cert.Pre_finite (S1x16x2048x128 S_)

theorem pos_inf : Ideal.ofBits FTy.f32 0x7F800000#32 = ⊤ := by
  simp [Ideal.ofBits, Ideal.ieee]

/-- An extended real below plus infinity in absolute value is real. -/
theorem real_of_abs_lt (x : EReal) (h : max x (-x) < ⊤) : ∃ r : ℝ, x = (r : EReal) := by
  induction x with
  | bot => exact absurd (lt_of_le_of_lt (le_max_right _ _) h) (by simp)
  | coe r => exact ⟨r, rfl⟩
  | top => exact absurd (lt_of_le_of_lt (le_max_left _ _) h) (by simp)

theorem real_of_all (x : FVec Ideal S1x16x2048x128 .f32) (b : S_.BroadcastsInDim S1x16x2048x128 ![])
    (hr : S1x16x2048x128.ReducesTo [0, 1, 2, 3] S_) (hs : 0 < S_.numel) (j : S_.Idx)
    (e : Host.reduce IntOp.andi (cmpf .olt (Host.absf x) (broadcastInDim S1x16x2048x128 ![] b (constant S_ .f32 0x7F800000#32)))
      (constantI S_ 1 1#1) hr hs j = 1#1) (i : S1x16x2048x128.Idx) : ∃ r : ℝ, x i = (r : EReal) := by
  haveI : Subsingleton S_.Idx := ⟨fun a b => funext fun k => k.elim0⟩
  have h := Host.reduce_andi_all _ _ hr hs j e i
  have h' : BitVec.ofBool (decide (max (x i) (-(x i)) < Ideal.ofBits .f32 0x7F800000#32)) = 1#1 := h
  rw [ofBool_decide_eq_one_iff, pos_inf] at h'
  exact real_of_abs_lt _ h'

/-- Under `finite` the queries and the keys are real. -/
theorem reals [Cert.Pre_finite.Facts] (q k v : FVec Ideal S1x16x2048x128 .f32) (h : Cert.Pre_finite.fn q k v = fun _ => 1#1) :
    (∃ q' : S1x16x2048x128.Idx → ℝ, q = fun i => (q' i : EReal)) ∧ ∃ k' : S1x16x2048x128.Idx → ℝ, k = fun i => (k' i : EReal) := by
  obtain ⟨h1, h2⟩ := IntOp.andi_eq_one.1 (congrFun h (Shape.Idx.first Cert.Pre_finite.Facts.h_S_))
  have r1 := real_of_all q _ _ _ _ h1
  have r2 := real_of_all k _ _ _ _ h2
  choose q' hq using r1
  choose k' hk using r2
  exact ⟨⟨q', funext hq⟩, ⟨k', funext hk⟩⟩

end Cert.Hand.Precond

end
-- ==== Proof.Algebraic.lean ====
module

public import proofs.«01_k».proof.Proof.Claims
public import proofs.«01_k».proof.Proof.Value
public import proofs.«01_k».proof.Proof.Precond

/-!
# The value claim

Where `finite` holds the queries and the keys are real, and both programs' results are then `attn` of them.
-/

@[expose] public section

noncomputable section

namespace Cert.Proof.Algebraic

open Idealize.ShloMosaic Idealize.ShloMosaic.TcCoe Idealize.SL.Sem

local instance : Cert.KernelIdeal.Facts := Cert.KernelIdeal.Gen.facts
local instance : Cert.ReferenceIdeal.Facts := Cert.ReferenceIdeal.Gen.facts
local instance : Cert.Pre_finite.Facts := Cert.Pre_finite.Gen.facts

/-- From agreeing arguments the reference's result is the kernel's output array. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v31 (F := Ideal) m' c = (Cert.KernelIdeal.Hand.dats m 0 c).arrAt 3 Cert.KernelIdeal.cfg0.N := by
  obtain ⟨⟨q, hq⟩, ⟨k, hk⟩⟩ := Cert.Hand.Precond.reals _ _ _ (hpre c)
  refine (Cert.ReferenceIdeal.Hand.res_eq m' c).trans ?_
  rw [h0.trans hq, h1.trans hk, h2]
  exact (Cert.Hand.Value.ref_value q k _).trans (Cert.Hand.Value.kernel_value m c q k _ hq hk rfl).symm

theorem algebraic : Cert.algebraic_KernelIdeal_ReferenceIdeal_pre_finite := by
  intro m g m' g' hpre ha
  refine ⟨fun c => (Cert.KernelIdeal.Hand.dats m 0 c).arrAt 3 Cert.KernelIdeal.cfg0.N, ?_, ?_⟩
  · exact (θ_run Cert.KernelIdeal.defs _ _).mono (fun _ h => h.1) (Cert.KernelIdeal.Hand.run_out m g)
  · exact (θ_run Cert.ReferenceIdeal.defs _ _).mono
      (fun _ h c => ⟨(h c).1.trans (values m m' c hpre (ha c).1 (ha c).2.1 (ha c).2.2), (h c).2⟩)
      (Cert.ReferenceIdeal.Value.run (F := Ideal) m' g')

end Cert.Proof.Algebraic

end
-- ==== Proof.lean ====
module

public import proofs.«01_k».proof.Defs
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts, Cert.Pre_finite.Gen.facts,
  Claims.frame_p, Claims.frame_pi, Claims.frame_pi_finite, Claims.frame_ri, Claims.frame_ri_finite, Claims.frame_r, Claims.preserves, trivial,
  Algebraic.algebraic⟩

end Cert.Proof

end
